-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S2x4096x256 : Shape := ⟨3, ![2, 4096, 256]⟩
abbrev S32x64x128 : Shape := ⟨3, ![32, 64, 128]⟩
abbrev S2 : Shape := ⟨1, ![2]⟩
abbrev S32 : Shape := ⟨1, ![32]⟩
abbrev S_ : Shape := ⟨0, ![]⟩
abbrev S1 : Shape := ⟨1, ![1]⟩
abbrev S1x4096x256 : Shape := ⟨3, ![1, 4096, 256]⟩
abbrev S4096x256 : Shape := ⟨2, ![4096, 256]⟩
abbrev S256x128 : Shape := ⟨2, ![256, 128]⟩
abbrev S64x128 : Shape := ⟨2, ![64, 128]⟩
abbrev S1x64x128 : Shape := ⟨3, ![1, 64, 128]⟩
abbrev S128x64 : Shape := ⟨2, ![128, 64]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S2x4096x256, .f32⟩
  | .local _ .vmem, ⟨3, _⟩ => ⟨S32x64x128, .f32⟩
  | .local _ .vmem, ⟨4, _⟩ => ⟨S32x64x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 : Nat :=
  let c0_i32_8 : BitVec 32 := 0#32
  let c0_i32_6 : BitVec 32 := 0#32
  let c1_i32_7 : BitVec 32 := 1#32
  let v21 : BitVec 32 := Scalar.muli c0_i32_6 c1_i32_7
  let v22 : BitVec 32 := Scalar.addi c0_i32_8 v21
  v22.toNat
def k0_dev2 : Nat :=
  let c0_i32_12 : BitVec 32 := 0#32
  let c1_i32_10 : BitVec 32 := 1#32
  let c1_i32_11 : BitVec 32 := 1#32
  let v23 : BitVec 32 := Scalar.muli c1_i32_10 c1_i32_11
  let v24 : BitVec 32 := Scalar.addi c0_i32_12 v23
  v24.toNat
def k0_dev3 : Nat :=
  let c0_i32_15 : BitVec 32 := 0#32
  let c2_i32 : BitVec 32 := 2#32
  let c1_i32_14 : BitVec 32 := 1#32
  let v25 : BitVec 32 := Scalar.muli c2_i32 c1_i32_14
  let v26 : BitVec 32 := Scalar.addi c0_i32_15 v25
  v26.toNat
def k0_dev4 : Nat :=
  let c0_i32_18 : BitVec 32 := 0#32
  let c3_i32 : BitVec 32 := 3#32
  let c1_i32_17 : BitVec 32 := 1#32
  let v27 : BitVec 32 := Scalar.muli c3_i32 c1_i32_17
  let v28 : BitVec 32 := Scalar.addi c0_i32_18 v27
  v28.toNat
def k0_dev5 : Nat :=
  let c0_i32_22 : BitVec 32 := 0#32
  let c4_i32_20 : BitVec 32 := 4#32
  let c1_i32_21 : BitVec 32 := 1#32
  let v29 : BitVec 32 := Scalar.muli c4_i32_20 c1_i32_21
  let v30 : BitVec 32 := Scalar.addi c0_i32_22 v29
  v30.toNat
def k0_dev6 : Nat :=
  let c0_i32_25 : BitVec 32 := 0#32
  let c5_i32 : BitVec 32 := 5#32
  let c1_i32_24 : BitVec 32 := 1#32
  let v31 : BitVec 32 := Scalar.muli c5_i32 c1_i32_24
  let v32 : BitVec 32 := Scalar.addi c0_i32_25 v31
  v32.toNat
def k0_dev7 : Nat :=
  let c0_i32_28 : BitVec 32 := 0#32
  let c6_i32 : BitVec 32 := 6#32
  let c1_i32_27 : BitVec 32 := 1#32
  let v33 : BitVec 32 := Scalar.muli c6_i32 c1_i32_27
  let v34 : BitVec 32 := Scalar.addi c0_i32_28 v33
  v34.toNat
def k0_dev8 : Nat :=
  let c0_i32_31 : BitVec 32 := 0#32
  let c7_i32 : BitVec 32 := 7#32
  let c1_i32_30 : BitVec 32 := 1#32
  let v35 : BitVec 32 := Scalar.muli c7_i32 c1_i32_30
  let v36 : BitVec 32 := Scalar.addi c0_i32_31 v35
  v36.toNat
def k0_dev9 : Nat :=
  let c0_i32_34 : BitVec 32 := 0#32
  let c8_i32 : BitVec 32 := 8#32
  let c1_i32_33 : BitVec 32 := 1#32
  let v37 : BitVec 32 := Scalar.muli c8_i32 c1_i32_33
  let v38 : BitVec 32 := Scalar.addi c0_i32_34 v37
  v38.toNat
def k0_dev10 : Nat :=
  let c0_i32_37 : BitVec 32 := 0#32
  let c9_i32 : BitVec 32 := 9#32
  let c1_i32_36 : BitVec 32 := 1#32
  let v39 : BitVec 32 := Scalar.muli c9_i32 c1_i32_36
  let v40 : BitVec 32 := Scalar.addi c0_i32_37 v39
  v40.toNat
def k0_dev11 : Nat :=
  let c0_i32_40 : BitVec 32 := 0#32
  let c10_i32 : BitVec 32 := 10#32
  let c1_i32_39 : BitVec 32 := 1#32
  let v41 : BitVec 32 := Scalar.muli c10_i32 c1_i32_39
  let v42 : BitVec 32 := Scalar.addi c0_i32_40 v41
  v42.toNat
def k0_dev12 : Nat :=
  let c0_i32_43 : BitVec 32 := 0#32
  let c11_i32 : BitVec 32 := 11#32
  let c1_i32_42 : BitVec 32 := 1#32
  let v43 : BitVec 32 := Scalar.muli c11_i32 c1_i32_42
  let v44 : BitVec 32 := Scalar.addi c0_i32_43 v43
  v44.toNat
def k0_dev13 : Nat :=
  let c0_i32_46 : BitVec 32 := 0#32
  let c12_i32 : BitVec 32 := 12#32
  let c1_i32_45 : BitVec 32 := 1#32
  let v45 : BitVec 32 := Scalar.muli c12_i32 c1_i32_45
  let v46 : BitVec 32 := Scalar.addi c0_i32_46 v45
  v46.toNat
def k0_dev14 : Nat :=
  let c0_i32_49 : BitVec 32 := 0#32
  let c13_i32 : BitVec 32 := 13#32
  let c1_i32_48 : BitVec 32 := 1#32
  let v47 : BitVec 32 := Scalar.muli c13_i32 c1_i32_48
  let v48 : BitVec 32 := Scalar.addi c0_i32_49 v47
  v48.toNat
def k0_dev15 : Nat :=
  let c0_i32_52 : BitVec 32 := 0#32
  let c14_i32 : BitVec 32 := 14#32
  let c1_i32_51 : BitVec 32 := 1#32
  let v49 : BitVec 32 := Scalar.muli c14_i32 c1_i32_51
  let v50 : BitVec 32 := Scalar.addi c0_i32_52 v49
  v50.toNat
def k0_dev16 : Nat :=
  let c0_i32_55 : BitVec 32 := 0#32
  let c15_i32 : BitVec 32 := 15#32
  let c1_i32_54 : BitVec 32 := 1#32
  let v51 : BitVec 32 := Scalar.muli c15_i32 c1_i32_54
  let v52 : BitVec 32 := Scalar.addi c0_i32_55 v51
  v52.toNat
def k0_dev17 : Nat :=
  let c0_i32_58 : BitVec 32 := 0#32
  let c16_i32 : BitVec 32 := 16#32
  let c1_i32_57 : BitVec 32 := 1#32
  let v53 : BitVec 32 := Scalar.muli c16_i32 c1_i32_57
  let v54 : BitVec 32 := Scalar.addi c0_i32_58 v53
  v54.toNat
def k0_dev18 : Nat :=
  let c0_i32_61 : BitVec 32 := 0#32
  let c17_i32 : BitVec 32 := 17#32
  let c1_i32_60 : BitVec 32 := 1#32
  let v55 : BitVec 32 := Scalar.muli c17_i32 c1_i32_60
  let v56 : BitVec 32 := Scalar.addi c0_i32_61 v55
  v56.toNat
def k0_dev19 : Nat :=
  let c0_i32_64 : BitVec 32 := 0#32
  let c18_i32 : BitVec 32 := 18#32
  let c1_i32_63 : BitVec 32 := 1#32
  let v57 : BitVec 32 := Scalar.muli c18_i32 c1_i32_63
  let v58 : BitVec 32 := Scalar.addi c0_i32_64 v57
  v58.toNat
def k0_dev20 : Nat :=
  let c0_i32_67 : BitVec 32 := 0#32
  let c19_i32 : BitVec 32 := 19#32
  let c1_i32_66 : BitVec 32 := 1#32
  let v59 : BitVec 32 := Scalar.muli c19_i32 c1_i32_66
  let v60 : BitVec 32 := Scalar.addi c0_i32_67 v59
  v60.toNat
def k0_dev21 : Nat :=
  let c0_i32_70 : BitVec 32 := 0#32
  let c20_i32 : BitVec 32 := 20#32
  let c1_i32_69 : BitVec 32 := 1#32
  let v61 : BitVec 32 := Scalar.muli c20_i32 c1_i32_69
  let v62 : BitVec 32 := Scalar.addi c0_i32_70 v61
  v62.toNat
def k0_dev22 : Nat :=
  let c0_i32_73 : BitVec 32 := 0#32
  let c21_i32 : BitVec 32 := 21#32
  let c1_i32_72 : BitVec 32 := 1#32
  let v63 : BitVec 32 := Scalar.muli c21_i32 c1_i32_72
  let v64 : BitVec 32 := Scalar.addi c0_i32_73 v63
  v64.toNat
def k0_dev23 : Nat :=
  let c0_i32_76 : BitVec 32 := 0#32
  let c22_i32 : BitVec 32 := 22#32
  let c1_i32_75 : BitVec 32 := 1#32
  let v65 : BitVec 32 := Scalar.muli c22_i32 c1_i32_75
  let v66 : BitVec 32 := Scalar.addi c0_i32_76 v65
  v66.toNat
def k0_dev24 : Nat :=
  let c0_i32_79 : BitVec 32 := 0#32
  let c23_i32 : BitVec 32 := 23#32
  let c1_i32_78 : BitVec 32 := 1#32
  let v67 : BitVec 32 := Scalar.muli c23_i32 c1_i32_78
  let v68 : BitVec 32 := Scalar.addi c0_i32_79 v67
  v68.toNat
def k0_dev25 : Nat :=
  let c0_i32_82 : BitVec 32 := 0#32
  let c24_i32 : BitVec 32 := 24#32
  let c1_i32_81 : BitVec 32 := 1#32
  let v69 : BitVec 32 := Scalar.muli c24_i32 c1_i32_81
  let v70 : BitVec 32 := Scalar.addi c0_i32_82 v69
  v70.toNat
def k0_dev26 : Nat :=
  let c0_i32_85 : BitVec 32 := 0#32
  let c25_i32 : BitVec 32 := 25#32
  let c1_i32_84 : BitVec 32 := 1#32
  let v71 : BitVec 32 := Scalar.muli c25_i32 c1_i32_84
  let v72 : BitVec 32 := Scalar.addi c0_i32_85 v71
  v72.toNat
def k0_dev27 : Nat :=
  let c0_i32_88 : BitVec 32 := 0#32
  let c26_i32 : BitVec 32 := 26#32
  let c1_i32_87 : BitVec 32 := 1#32
  let v73 : BitVec 32 := Scalar.muli c26_i32 c1_i32_87
  let v74 : BitVec 32 := Scalar.addi c0_i32_88 v73
  v74.toNat
def k0_dev28 : Nat :=
  let c0_i32_91 : BitVec 32 := 0#32
  let c27_i32 : BitVec 32 := 27#32
  let c1_i32_90 : BitVec 32 := 1#32
  let v75 : BitVec 32 := Scalar.muli c27_i32 c1_i32_90
  let v76 : BitVec 32 := Scalar.addi c0_i32_91 v75
  v76.toNat
def k0_dev29 : Nat :=
  let c0_i32_94 : BitVec 32 := 0#32
  let c28_i32 : BitVec 32 := 28#32
  let c1_i32_93 : BitVec 32 := 1#32
  let v77 : BitVec 32 := Scalar.muli c28_i32 c1_i32_93
  let v78 : BitVec 32 := Scalar.addi c0_i32_94 v77
  v78.toNat
def k0_dev30 : Nat :=
  let c0_i32_97 : BitVec 32 := 0#32
  let c29_i32 : BitVec 32 := 29#32
  let c1_i32_96 : BitVec 32 := 1#32
  let v79 : BitVec 32 := Scalar.muli c29_i32 c1_i32_96
  let v80 : BitVec 32 := Scalar.addi c0_i32_97 v79
  v80.toNat
def k0_dev31 : Nat :=
  let c0_i32_100 : BitVec 32 := 0#32
  let c30_i32 : BitVec 32 := 30#32
  let c1_i32_99 : BitVec 32 := 1#32
  let v81 : BitVec 32 := Scalar.muli c30_i32 c1_i32_99
  let v82 : BitVec 32 := Scalar.addi c0_i32_100 v81
  v82.toNat
def k0_dev32 : Nat :=
  let c0_i32_103 : BitVec 32 := 0#32
  let c31_i32 : BitVec 32 := 31#32
  let c1_i32_102 : BitVec 32 := 1#32
  let v83 : BitVec 32 := Scalar.muli c31_i32 c1_i32_102
  let v84 : BitVec 32 := Scalar.addi c0_i32_103 v83
  v84.toNat
def k0_off1 (d0 : Dev nD) (c0_i32_105 : BitVec 32) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v85 : BitVec 32 := Scalar.addi v19 c0_i32_105
  let c8_i32_106 : BitVec 32 := 8#32
  let v86 : BitVec 32 := Scalar.remsi v85 c8_i32_106
  let c256_i32 : BitVec 32 := 256#32
  let v87 : BitVec 32 := Scalar.muli v86 c256_i32
  ![0, v87.toNat]
def k0_off2 (d0 : Dev nD) (c0_i32_129 : BitVec 32) (c0_i32_132 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.addi v19 c0_i32_129
  let c8_i32_130 : BitVec 32 := 8#32
  let v112 : BitVec 32 := Scalar.remsi v111 c8_i32_130
  let c4_i32_131 : BitVec 32 := 4#32
  let v113 : BitVec 32 := Scalar.muli v112 c4_i32_131
  let v114 : BitVec 32 := Scalar.addi v113 c0_i32_132
  let v115 : BitVec 32 := Scalar.subi v114 v2
  let c32_i32_133 : BitVec 32 := 32#32
  let v116 : BitVec 32 := Scalar.addi v115 c32_i32_133
  let c32_i32_134 : BitVec 32 := 32#32
  let v117 : BitVec 32 := Scalar.remsi v116 c32_i32_134
  ![v117.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_142 : BitVec 32 := 0#32
  let c0_i32_143 : BitVec 32 := 0#32
  ![v2.toNat, 0, 0]
def k0_dev33 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_129 : BitVec 32 := 0#32
  let v111 : BitVec 32 := Scalar.addi v19 c0_i32_129
  let c8_i32_130 : BitVec 32 := 8#32
  let v112 : BitVec 32 := Scalar.remsi v111 c8_i32_130
  let c4_i32_131 : BitVec 32 := 4#32
  let v113 : BitVec 32 := Scalar.muli v112 c4_i32_131
  let c0_i32_132 : BitVec 32 := 0#32
  let v114 : BitVec 32 := Scalar.addi v113 c0_i32_132
  let c1_i32_140 : BitVec 32 := 1#32
  let v122 : BitVec 32 := Scalar.muli v114 c1_i32_140
  let v123 : BitVec 32 := Scalar.addi c0_i32_141 v122
  v123.toNat
def k0_dev34 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_129 : BitVec 32 := 0#32
  let v111 : BitVec 32 := Scalar.addi v19 c0_i32_129
  let c8_i32_130 : BitVec 32 := 8#32
  let v112 : BitVec 32 := Scalar.remsi v111 c8_i32_130
  let c4_i32_146 : BitVec 32 := 4#32
  let v132 : BitVec 32 := Scalar.muli v112 c4_i32_146
  let c1_i32_147 : BitVec 32 := 1#32
  let v133 : BitVec 32 := Scalar.addi v132 c1_i32_147
  let c1_i32_154 : BitVec 32 := 1#32
  let v141 : BitVec 32 := Scalar.muli v133 c1_i32_154
  let v142 : BitVec 32 := Scalar.addi c0_i32_155 v141
  v142.toNat
def k0_dev35 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_129 : BitVec 32 := 0#32
  let v111 : BitVec 32 := Scalar.addi v19 c0_i32_129
  let c8_i32_130 : BitVec 32 := 8#32
  let v112 : BitVec 32 := Scalar.remsi v111 c8_i32_130
  let c4_i32_160 : BitVec 32 := 4#32
  let v151 : BitVec 32 := Scalar.muli v112 c4_i32_160
  let c2_i32_161 : BitVec 32 := 2#32
  let v152 : BitVec 32 := Scalar.addi v151 c2_i32_161
  let c1_i32_168 : BitVec 32 := 1#32
  let v160 : BitVec 32 := Scalar.muli v152 c1_i32_168
  let v161 : BitVec 32 := Scalar.addi c0_i32_169 v160
  v161.toNat
def k0_dev36 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_129 : BitVec 32 := 0#32
  let v111 : BitVec 32 := Scalar.addi v19 c0_i32_129
  let c8_i32_130 : BitVec 32 := 8#32
  let v112 : BitVec 32 := Scalar.remsi v111 c8_i32_130
  let c4_i32_174 : BitVec 32 := 4#32
  let v170 : BitVec 32 := Scalar.muli v112 c4_i32_174
  let c3_i32_175 : BitVec 32 := 3#32
  let v171 : BitVec 32 := Scalar.addi v170 c3_i32_175
  let c1_i32_182 : BitVec 32 := 1#32
  let v179 : BitVec 32 := Scalar.muli v171 c1_i32_182
  let v180 : BitVec 32 := Scalar.addi c0_i32_183 v179
  v180.toNat
def k0_dev37 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_207 : BitVec 32 := 1#32
  let v207 : BitVec 32 := Scalar.addi v19 c1_i32_207
  let c8_i32_208 : BitVec 32 := 8#32
  let v208 : BitVec 32 := Scalar.remsi v207 c8_i32_208
  let c4_i32_209 : BitVec 32 := 4#32
  let v209 : BitVec 32 := Scalar.muli v208 c4_i32_209
  let c0_i32_210 : BitVec 32 := 0#32
  let v210 : BitVec 32 := Scalar.addi v209 c0_i32_210
  let c1_i32_217 : BitVec 32 := 1#32
  let v218 : BitVec 32 := Scalar.muli v210 c1_i32_217
  let v219 : BitVec 32 := Scalar.addi c0_i32_218 v218
  v219.toNat
def k0_dev38 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_207 : BitVec 32 := 1#32
  let v207 : BitVec 32 := Scalar.addi v19 c1_i32_207
  let c8_i32_208 : BitVec 32 := 8#32
  let v208 : BitVec 32 := Scalar.remsi v207 c8_i32_208
  let c4_i32_223 : BitVec 32 := 4#32
  let v228 : BitVec 32 := Scalar.muli v208 c4_i32_223
  let c1_i32_224 : BitVec 32 := 1#32
  let v229 : BitVec 32 := Scalar.addi v228 c1_i32_224
  let c1_i32_231 : BitVec 32 := 1#32
  let v237 : BitVec 32 := Scalar.muli v229 c1_i32_231
  let v238 : BitVec 32 := Scalar.addi c0_i32_232 v237
  v238.toNat
def k0_dev39 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_207 : BitVec 32 := 1#32
  let v207 : BitVec 32 := Scalar.addi v19 c1_i32_207
  let c8_i32_208 : BitVec 32 := 8#32
  let v208 : BitVec 32 := Scalar.remsi v207 c8_i32_208
  let c4_i32_237 : BitVec 32 := 4#32
  let v247 : BitVec 32 := Scalar.muli v208 c4_i32_237
  let c2_i32_238 : BitVec 32 := 2#32
  let v248 : BitVec 32 := Scalar.addi v247 c2_i32_238
  let c1_i32_245 : BitVec 32 := 1#32
  let v256 : BitVec 32 := Scalar.muli v248 c1_i32_245
  let v257 : BitVec 32 := Scalar.addi c0_i32_246 v256
  v257.toNat
def k0_dev40 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_207 : BitVec 32 := 1#32
  let v207 : BitVec 32 := Scalar.addi v19 c1_i32_207
  let c8_i32_208 : BitVec 32 := 8#32
  let v208 : BitVec 32 := Scalar.remsi v207 c8_i32_208
  let c4_i32_251 : BitVec 32 := 4#32
  let v266 : BitVec 32 := Scalar.muli v208 c4_i32_251
  let c3_i32_252 : BitVec 32 := 3#32
  let v267 : BitVec 32 := Scalar.addi v266 c3_i32_252
  let c1_i32_259 : BitVec 32 := 1#32
  let v275 : BitVec 32 := Scalar.muli v267 c1_i32_259
  let v276 : BitVec 32 := Scalar.addi c0_i32_260 v275
  v276.toNat
def k0_dev41 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_284 : BitVec 32 := 2#32
  let v303 : BitVec 32 := Scalar.addi v19 c2_i32_284
  let c8_i32_285 : BitVec 32 := 8#32
  let v304 : BitVec 32 := Scalar.remsi v303 c8_i32_285
  let c4_i32_286 : BitVec 32 := 4#32
  let v305 : BitVec 32 := Scalar.muli v304 c4_i32_286
  let c0_i32_287 : BitVec 32 := 0#32
  let v306 : BitVec 32 := Scalar.addi v305 c0_i32_287
  let c1_i32_294 : BitVec 32 := 1#32
  let v314 : BitVec 32 := Scalar.muli v306 c1_i32_294
  let v315 : BitVec 32 := Scalar.addi c0_i32_295 v314
  v315.toNat
def k0_dev42 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_284 : BitVec 32 := 2#32
  let v303 : BitVec 32 := Scalar.addi v19 c2_i32_284
  let c8_i32_285 : BitVec 32 := 8#32
  let v304 : BitVec 32 := Scalar.remsi v303 c8_i32_285
  let c4_i32_300 : BitVec 32 := 4#32
  let v324 : BitVec 32 := Scalar.muli v304 c4_i32_300
  let c1_i32_301 : BitVec 32 := 1#32
  let v325 : BitVec 32 := Scalar.addi v324 c1_i32_301
  let c1_i32_308 : BitVec 32 := 1#32
  let v333 : BitVec 32 := Scalar.muli v325 c1_i32_308
  let v334 : BitVec 32 := Scalar.addi c0_i32_309 v333
  v334.toNat
def k0_dev43 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_284 : BitVec 32 := 2#32
  let v303 : BitVec 32 := Scalar.addi v19 c2_i32_284
  let c8_i32_285 : BitVec 32 := 8#32
  let v304 : BitVec 32 := Scalar.remsi v303 c8_i32_285
  let c4_i32_314 : BitVec 32 := 4#32
  let v343 : BitVec 32 := Scalar.muli v304 c4_i32_314
  let c2_i32_315 : BitVec 32 := 2#32
  let v344 : BitVec 32 := Scalar.addi v343 c2_i32_315
  let c1_i32_322 : BitVec 32 := 1#32
  let v352 : BitVec 32 := Scalar.muli v344 c1_i32_322
  let v353 : BitVec 32 := Scalar.addi c0_i32_323 v352
  v353.toNat
def k0_dev44 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_284 : BitVec 32 := 2#32
  let v303 : BitVec 32 := Scalar.addi v19 c2_i32_284
  let c8_i32_285 : BitVec 32 := 8#32
  let v304 : BitVec 32 := Scalar.remsi v303 c8_i32_285
  let c4_i32_328 : BitVec 32 := 4#32
  let v362 : BitVec 32 := Scalar.muli v304 c4_i32_328
  let c3_i32_329 : BitVec 32 := 3#32
  let v363 : BitVec 32 := Scalar.addi v362 c3_i32_329
  let c1_i32_336 : BitVec 32 := 1#32
  let v371 : BitVec 32 := Scalar.muli v363 c1_i32_336
  let v372 : BitVec 32 := Scalar.addi c0_i32_337 v371
  v372.toNat
def k0_dev45 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_361 : BitVec 32 := 3#32
  let v399 : BitVec 32 := Scalar.addi v19 c3_i32_361
  let c8_i32_362 : BitVec 32 := 8#32
  let v400 : BitVec 32 := Scalar.remsi v399 c8_i32_362
  let c4_i32_363 : BitVec 32 := 4#32
  let v401 : BitVec 32 := Scalar.muli v400 c4_i32_363
  let c0_i32_364 : BitVec 32 := 0#32
  let v402 : BitVec 32 := Scalar.addi v401 c0_i32_364
  let c1_i32_371 : BitVec 32 := 1#32
  let v410 : BitVec 32 := Scalar.muli v402 c1_i32_371
  let v411 : BitVec 32 := Scalar.addi c0_i32_372 v410
  v411.toNat
def k0_dev46 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_361 : BitVec 32 := 3#32
  let v399 : BitVec 32 := Scalar.addi v19 c3_i32_361
  let c8_i32_362 : BitVec 32 := 8#32
  let v400 : BitVec 32 := Scalar.remsi v399 c8_i32_362
  let c4_i32_377 : BitVec 32 := 4#32
  let v420 : BitVec 32 := Scalar.muli v400 c4_i32_377
  let c1_i32_378 : BitVec 32 := 1#32
  let v421 : BitVec 32 := Scalar.addi v420 c1_i32_378
  let c1_i32_385 : BitVec 32 := 1#32
  let v429 : BitVec 32 := Scalar.muli v421 c1_i32_385
  let v430 : BitVec 32 := Scalar.addi c0_i32_386 v429
  v430.toNat
def k0_dev47 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_361 : BitVec 32 := 3#32
  let v399 : BitVec 32 := Scalar.addi v19 c3_i32_361
  let c8_i32_362 : BitVec 32 := 8#32
  let v400 : BitVec 32 := Scalar.remsi v399 c8_i32_362
  let c4_i32_391 : BitVec 32 := 4#32
  let v439 : BitVec 32 := Scalar.muli v400 c4_i32_391
  let c2_i32_392 : BitVec 32 := 2#32
  let v440 : BitVec 32 := Scalar.addi v439 c2_i32_392
  let c1_i32_399 : BitVec 32 := 1#32
  let v448 : BitVec 32 := Scalar.muli v440 c1_i32_399
  let v449 : BitVec 32 := Scalar.addi c0_i32_400 v448
  v449.toNat
def k0_dev48 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_361 : BitVec 32 := 3#32
  let v399 : BitVec 32 := Scalar.addi v19 c3_i32_361
  let c8_i32_362 : BitVec 32 := 8#32
  let v400 : BitVec 32 := Scalar.remsi v399 c8_i32_362
  let c4_i32_405 : BitVec 32 := 4#32
  let v458 : BitVec 32 := Scalar.muli v400 c4_i32_405
  let c3_i32_406 : BitVec 32 := 3#32
  let v459 : BitVec 32 := Scalar.addi v458 c3_i32_406
  let c1_i32_413 : BitVec 32 := 1#32
  let v467 : BitVec 32 := Scalar.muli v459 c1_i32_413
  let v468 : BitVec 32 := Scalar.addi c0_i32_414 v467
  v468.toNat
def k0_dev49 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_438 : BitVec 32 := 4#32
  let v495 : BitVec 32 := Scalar.addi v19 c4_i32_438
  let c8_i32_439 : BitVec 32 := 8#32
  let v496 : BitVec 32 := Scalar.remsi v495 c8_i32_439
  let c4_i32_440 : BitVec 32 := 4#32
  let v497 : BitVec 32 := Scalar.muli v496 c4_i32_440
  let c0_i32_441 : BitVec 32 := 0#32
  let v498 : BitVec 32 := Scalar.addi v497 c0_i32_441
  let c1_i32_448 : BitVec 32 := 1#32
  let v506 : BitVec 32 := Scalar.muli v498 c1_i32_448
  let v507 : BitVec 32 := Scalar.addi c0_i32_449 v506
  v507.toNat
def k0_dev50 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_438 : BitVec 32 := 4#32
  let v495 : BitVec 32 := Scalar.addi v19 c4_i32_438
  let c8_i32_439 : BitVec 32 := 8#32
  let v496 : BitVec 32 := Scalar.remsi v495 c8_i32_439
  let c4_i32_454 : BitVec 32 := 4#32
  let v516 : BitVec 32 := Scalar.muli v496 c4_i32_454
  let c1_i32_455 : BitVec 32 := 1#32
  let v517 : BitVec 32 := Scalar.addi v516 c1_i32_455
  let c1_i32_462 : BitVec 32 := 1#32
  let v525 : BitVec 32 := Scalar.muli v517 c1_i32_462
  let v526 : BitVec 32 := Scalar.addi c0_i32_463 v525
  v526.toNat
def k0_dev51 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_438 : BitVec 32 := 4#32
  let v495 : BitVec 32 := Scalar.addi v19 c4_i32_438
  let c8_i32_439 : BitVec 32 := 8#32
  let v496 : BitVec 32 := Scalar.remsi v495 c8_i32_439
  let c4_i32_468 : BitVec 32 := 4#32
  let v535 : BitVec 32 := Scalar.muli v496 c4_i32_468
  let c2_i32_469 : BitVec 32 := 2#32
  let v536 : BitVec 32 := Scalar.addi v535 c2_i32_469
  let c1_i32_476 : BitVec 32 := 1#32
  let v544 : BitVec 32 := Scalar.muli v536 c1_i32_476
  let v545 : BitVec 32 := Scalar.addi c0_i32_477 v544
  v545.toNat
def k0_dev52 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_438 : BitVec 32 := 4#32
  let v495 : BitVec 32 := Scalar.addi v19 c4_i32_438
  let c8_i32_439 : BitVec 32 := 8#32
  let v496 : BitVec 32 := Scalar.remsi v495 c8_i32_439
  let c4_i32_482 : BitVec 32 := 4#32
  let v554 : BitVec 32 := Scalar.muli v496 c4_i32_482
  let c3_i32_483 : BitVec 32 := 3#32
  let v555 : BitVec 32 := Scalar.addi v554 c3_i32_483
  let c1_i32_490 : BitVec 32 := 1#32
  let v563 : BitVec 32 := Scalar.muli v555 c1_i32_490
  let v564 : BitVec 32 := Scalar.addi c0_i32_491 v563
  v564.toNat
def k0_dev53 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_515 : BitVec 32 := 5#32
  let v591 : BitVec 32 := Scalar.addi v19 c5_i32_515
  let c8_i32_516 : BitVec 32 := 8#32
  let v592 : BitVec 32 := Scalar.remsi v591 c8_i32_516
  let c4_i32_517 : BitVec 32 := 4#32
  let v593 : BitVec 32 := Scalar.muli v592 c4_i32_517
  let c0_i32_518 : BitVec 32 := 0#32
  let v594 : BitVec 32 := Scalar.addi v593 c0_i32_518
  let c1_i32_525 : BitVec 32 := 1#32
  let v602 : BitVec 32 := Scalar.muli v594 c1_i32_525
  let v603 : BitVec 32 := Scalar.addi c0_i32_526 v602
  v603.toNat
def k0_dev54 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_515 : BitVec 32 := 5#32
  let v591 : BitVec 32 := Scalar.addi v19 c5_i32_515
  let c8_i32_516 : BitVec 32 := 8#32
  let v592 : BitVec 32 := Scalar.remsi v591 c8_i32_516
  let c4_i32_531 : BitVec 32 := 4#32
  let v612 : BitVec 32 := Scalar.muli v592 c4_i32_531
  let c1_i32_532 : BitVec 32 := 1#32
  let v613 : BitVec 32 := Scalar.addi v612 c1_i32_532
  let c1_i32_539 : BitVec 32 := 1#32
  let v621 : BitVec 32 := Scalar.muli v613 c1_i32_539
  let v622 : BitVec 32 := Scalar.addi c0_i32_540 v621
  v622.toNat
def k0_dev55 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_515 : BitVec 32 := 5#32
  let v591 : BitVec 32 := Scalar.addi v19 c5_i32_515
  let c8_i32_516 : BitVec 32 := 8#32
  let v592 : BitVec 32 := Scalar.remsi v591 c8_i32_516
  let c4_i32_545 : BitVec 32 := 4#32
  let v631 : BitVec 32 := Scalar.muli v592 c4_i32_545
  let c2_i32_546 : BitVec 32 := 2#32
  let v632 : BitVec 32 := Scalar.addi v631 c2_i32_546
  let c1_i32_553 : BitVec 32 := 1#32
  let v640 : BitVec 32 := Scalar.muli v632 c1_i32_553
  let v641 : BitVec 32 := Scalar.addi c0_i32_554 v640
  v641.toNat
def k0_dev56 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_515 : BitVec 32 := 5#32
  let v591 : BitVec 32 := Scalar.addi v19 c5_i32_515
  let c8_i32_516 : BitVec 32 := 8#32
  let v592 : BitVec 32 := Scalar.remsi v591 c8_i32_516
  let c4_i32_559 : BitVec 32 := 4#32
  let v650 : BitVec 32 := Scalar.muli v592 c4_i32_559
  let c3_i32_560 : BitVec 32 := 3#32
  let v651 : BitVec 32 := Scalar.addi v650 c3_i32_560
  let c1_i32_567 : BitVec 32 := 1#32
  let v659 : BitVec 32 := Scalar.muli v651 c1_i32_567
  let v660 : BitVec 32 := Scalar.addi c0_i32_568 v659
  v660.toNat
def k0_dev57 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_592 : BitVec 32 := 6#32
  let v687 : BitVec 32 := Scalar.addi v19 c6_i32_592
  let c8_i32_593 : BitVec 32 := 8#32
  let v688 : BitVec 32 := Scalar.remsi v687 c8_i32_593
  let c4_i32_594 : BitVec 32 := 4#32
  let v689 : BitVec 32 := Scalar.muli v688 c4_i32_594
  let c0_i32_595 : BitVec 32 := 0#32
  let v690 : BitVec 32 := Scalar.addi v689 c0_i32_595
  let c1_i32_602 : BitVec 32 := 1#32
  let v698 : BitVec 32 := Scalar.muli v690 c1_i32_602
  let v699 : BitVec 32 := Scalar.addi c0_i32_603 v698
  v699.toNat
def k0_dev58 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_592 : BitVec 32 := 6#32
  let v687 : BitVec 32 := Scalar.addi v19 c6_i32_592
  let c8_i32_593 : BitVec 32 := 8#32
  let v688 : BitVec 32 := Scalar.remsi v687 c8_i32_593
  let c4_i32_608 : BitVec 32 := 4#32
  let v708 : BitVec 32 := Scalar.muli v688 c4_i32_608
  let c1_i32_609 : BitVec 32 := 1#32
  let v709 : BitVec 32 := Scalar.addi v708 c1_i32_609
  let c1_i32_616 : BitVec 32 := 1#32
  let v717 : BitVec 32 := Scalar.muli v709 c1_i32_616
  let v718 : BitVec 32 := Scalar.addi c0_i32_617 v717
  v718.toNat
def k0_dev59 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_592 : BitVec 32 := 6#32
  let v687 : BitVec 32 := Scalar.addi v19 c6_i32_592
  let c8_i32_593 : BitVec 32 := 8#32
  let v688 : BitVec 32 := Scalar.remsi v687 c8_i32_593
  let c4_i32_622 : BitVec 32 := 4#32
  let v727 : BitVec 32 := Scalar.muli v688 c4_i32_622
  let c2_i32_623 : BitVec 32 := 2#32
  let v728 : BitVec 32 := Scalar.addi v727 c2_i32_623
  let c1_i32_630 : BitVec 32 := 1#32
  let v736 : BitVec 32 := Scalar.muli v728 c1_i32_630
  let v737 : BitVec 32 := Scalar.addi c0_i32_631 v736
  v737.toNat
def k0_dev60 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_592 : BitVec 32 := 6#32
  let v687 : BitVec 32 := Scalar.addi v19 c6_i32_592
  let c8_i32_593 : BitVec 32 := 8#32
  let v688 : BitVec 32 := Scalar.remsi v687 c8_i32_593
  let c4_i32_636 : BitVec 32 := 4#32
  let v746 : BitVec 32 := Scalar.muli v688 c4_i32_636
  let c3_i32_637 : BitVec 32 := 3#32
  let v747 : BitVec 32 := Scalar.addi v746 c3_i32_637
  let c1_i32_644 : BitVec 32 := 1#32
  let v755 : BitVec 32 := Scalar.muli v747 c1_i32_644
  let v756 : BitVec 32 := Scalar.addi c0_i32_645 v755
  v756.toNat
def k0_dev61 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_661 : BitVec 32 := 7#32
  let v775 : BitVec 32 := Scalar.addi v19 c7_i32_661
  let c8_i32_662 : BitVec 32 := 8#32
  let v776 : BitVec 32 := Scalar.remsi v775 c8_i32_662
  let c4_i32_663 : BitVec 32 := 4#32
  let v777 : BitVec 32 := Scalar.muli v776 c4_i32_663
  let c0_i32_664 : BitVec 32 := 0#32
  let v778 : BitVec 32 := Scalar.addi v777 c0_i32_664
  let c1_i32_671 : BitVec 32 := 1#32
  let v786 : BitVec 32 := Scalar.muli v778 c1_i32_671
  let v787 : BitVec 32 := Scalar.addi c0_i32_672 v786
  v787.toNat
def k0_dev62 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_661 : BitVec 32 := 7#32
  let v775 : BitVec 32 := Scalar.addi v19 c7_i32_661
  let c8_i32_662 : BitVec 32 := 8#32
  let v776 : BitVec 32 := Scalar.remsi v775 c8_i32_662
  let c4_i32_677 : BitVec 32 := 4#32
  let v796 : BitVec 32 := Scalar.muli v776 c4_i32_677
  let c1_i32_678 : BitVec 32 := 1#32
  let v797 : BitVec 32 := Scalar.addi v796 c1_i32_678
  let c1_i32_685 : BitVec 32 := 1#32
  let v805 : BitVec 32 := Scalar.muli v797 c1_i32_685
  let v806 : BitVec 32 := Scalar.addi c0_i32_686 v805
  v806.toNat
def k0_dev63 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_661 : BitVec 32 := 7#32
  let v775 : BitVec 32 := Scalar.addi v19 c7_i32_661
  let c8_i32_662 : BitVec 32 := 8#32
  let v776 : BitVec 32 := Scalar.remsi v775 c8_i32_662
  let c4_i32_691 : BitVec 32 := 4#32
  let v815 : BitVec 32 := Scalar.muli v776 c4_i32_691
  let c2_i32_692 : BitVec 32 := 2#32
  let v816 : BitVec 32 := Scalar.addi v815 c2_i32_692
  let c1_i32_699 : BitVec 32 := 1#32
  let v824 : BitVec 32 := Scalar.muli v816 c1_i32_699
  let v825 : BitVec 32 := Scalar.addi c0_i32_700 v824
  v825.toNat
def k0_dev64 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_661 : BitVec 32 := 7#32
  let v775 : BitVec 32 := Scalar.addi v19 c7_i32_661
  let c8_i32_662 : BitVec 32 := 8#32
  let v776 : BitVec 32 := Scalar.remsi v775 c8_i32_662
  let c4_i32_705 : BitVec 32 := 4#32
  let v834 : BitVec 32 := Scalar.muli v776 c4_i32_705
  let c3_i32_706 : BitVec 32 := 3#32
  let v835 : BitVec 32 := Scalar.addi v834 c3_i32_706
  let c1_i32_713 : BitVec 32 := 1#32
  let v843 : BitVec 32 := Scalar.muli v835 c1_i32_713
  let v844 : BitVec 32 := Scalar.addi c0_i32_714 v843
  v844.toNat
def k0_off4 (d0 : Dev nD) (c0_i32_719 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v853 : BitVec 32 := Scalar.subi v2 c0_i32_719
  let c32_i32_720 : BitVec 32 := 32#32
  let v854 : BitVec 32 := Scalar.addi v853 c32_i32_720
  let c32_i32_721 : BitVec 32 := 32#32
  let v855 : BitVec 32 := Scalar.remsi v854 c32_i32_721
  let c0_i32_727 : BitVec 32 := 0#32
  let c0_i32_728 : BitVec 32 := 0#32
  ![v855.toNat, 0, 0]
def k0_off5 (d0 : Dev nD) (c0_i32_719 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v853 : BitVec 32 := Scalar.subi v2 c0_i32_719
  let c32_i32_720 : BitVec 32 := 32#32
  let v854 : BitVec 32 := Scalar.addi v853 c32_i32_720
  let c32_i32_721 : BitVec 32 := 32#32
  let v855 : BitVec 32 := Scalar.remsi v854 c32_i32_721
  let v864 : Index := Scalar.indexCast v855
  let c0_731 : Index := 0#32
  let c0_732 : Index := 0#32
  ![v864.toNat, 0, 0]
def k0_off6 (d0 : Dev nD) (c0_i32_719 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v853 : BitVec 32 := Scalar.subi v2 c0_i32_719
  let c32_i32_720 : BitVec 32 := 32#32
  let v854 : BitVec 32 := Scalar.addi v853 c32_i32_720
  let c32_i32_721 : BitVec 32 := 32#32
  let v855 : BitVec 32 := Scalar.remsi v854 c32_i32_721
  let c128_i32 : BitVec 32 := 128#32
  let v868 : BitVec 32 := Scalar.muli v855 c128_i32
  let v869 : Index := Scalar.indexCast v868
  let c0_733 : Index := 0#32
  ![v869.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Clean.lean ====
/-
  The kernel's body told again as six steps, each repeated by a loop: the printed body writes every
  repetition out. The two are the same sequence of operations, so the equation is by `rfl`.
-/
module

public import proofs.«01_k».proof.Proof.Gen.KernelIdeal.Skeleton

@[expose] public section

noncomputable section

namespace Cert.KernelIdeal.Gen

open Idealize.ShloMosaic Idealize.SL.Sem

variable {F : FTy → Type} [FloatOps F]

/-- The kernel's programs. -/
abbrev BProg (F : FTy → Type) [FloatOps F] : Type → Type 1 := Prog (TpuEff nD τ sig (Elt F) Λ₀ .tc)

/-- Run `f` at `i`, `i + 1`, …, for `n` numbers. -/
def loop (f : Nat → BProg F PUnit) : Nat → Nat → BProg F PUnit
  | 0, _ => pure ⟨⟩
  | n + 1, i => do f i; loop f n (i + 1)

/-- The device the `j`-th entry signal names. -/
def sigDev : Fin 32 → Nat := ![k0_dev1, k0_dev2, k0_dev3, k0_dev4, k0_dev5, k0_dev6, k0_dev7, k0_dev8, k0_dev9, k0_dev10,
  k0_dev11, k0_dev12, k0_dev13, k0_dev14, k0_dev15, k0_dev16, k0_dev17, k0_dev18, k0_dev19, k0_dev20, k0_dev21,
  k0_dev22, k0_dev23, k0_dev24, k0_dev25, k0_dev26, k0_dev27, k0_dev28, k0_dev29, k0_dev30, k0_dev31, k0_dev32]

/-- The device the `p`-th transfer names. -/
def sendDev (d : Dev nD) : Fin 32 → Nat := ![k0_dev33 d, k0_dev34 d, k0_dev35 d, k0_dev36 d, k0_dev37 d, k0_dev38 d,
  k0_dev39 d, k0_dev40 d, k0_dev41 d, k0_dev42 d, k0_dev43 d, k0_dev44 d, k0_dev45 d, k0_dev46 d, k0_dev47 d,
  k0_dev48 d, k0_dev49 d, k0_dev50 d, k0_dev51 d, k0_dev52 d, k0_dev53 d, k0_dev54 d, k0_dev55 d, k0_dev56 d,
  k0_dev57 d, k0_dev58 d, k0_dev59 d, k0_dev60 d, k0_dev61 d, k0_dev62 d, k0_dev63 d, k0_dev64 d]

/-- The `p`-th transfer of device `d` goes to the device whose group is `p / 4` after `d`'s, at place `p % 4` of it. -/
def dst (d : Dev nD) (p : Fin 32) : Dev nD := ⟨(d.val / 4 + p.val / 4) % 8 * 4 + p.val % 4, by
  show _ < 32; omega⟩

theorem sigDev_eq (j : Fin 32) : sigDev j = j.val := by revert j; decide +kernel
theorem sendDev_eq (d : Dev nD) (p : Fin 32) : sendDev d p = (dst d p).val := by revert d p; decide +kernel
theorem sigDev_lt (j : Fin 32) : sigDev j < nD := by rw [sigDev_eq]; exact j.isLt
theorem sendDev_lt (d : Dev nD) (p : Fin 32) : sendDev d p < nD := by rw [sendDev_eq]; exact (dst d p).isLt

/-- Number `i` as one of `n`. -/
abbrev nth (n : Nat) [NeZero n] (i : Nat) : Fin n := Fin.ofNat n i

theorem inb_w (s : Fin 2) : ∀ a, (![s.val, 0, 0] : Fin 3 → Nat) a + S1x4096x256.size a ≤ S2x4096x256.size a := by
  revert s; decide
theorem inb_wsem (s : Fin 2) : ∀ a, (![s.val] : Fin 1 → Nat) a + S1.size a ≤ S2.size a := by revert s; decide
theorem inb_b (p : Fin 32) : ∀ a, (![p.val, 0, 0] : Fin 3 → Nat) a + S1x64x128.size a ≤ S32x64x128.size a := by
  revert p; decide
theorem inb_bsem (p : Fin 32) : ∀ a, (![p.val] : Fin 1 → Nat) a + S1.size a ≤ S32.size a := by revert p; decide
theorem slices_q (q : Fin 4) : S256x128.Slices ![64 * q.val, 0] S64x128 := by revert q; decide

/-- A group's number as a word, and a place's within it. -/
abbrev w8 (g : Fin 8) : BitVec 32 := BitVec.ofNat 32 g.val
abbrev w4 (q : Fin 4) : BitVec 32 := BitVec.ofNat 32 q.val
abbrev w32 (q : Fin 32) : BitVec 32 := BitVec.ofNat 32 q.val

section Parts
variable (arg0 : Memref sig .tc .vmem S128x4096 .f32) (arg1 : Memref sig .tc .hbm S4096x2048 .f32)
  (arg2 : Memref sig .tc .vmem S4096x64 .f32) (arg3 : Memref sig .tc .vmem S2x4096x256 .f32)
  (arg4 arg5 : Memref sig .tc .vmem S32x64x128 .f32) (arg6 : DmaSems sig S2) (arg7 arg8 : DmaSems sig S32)

/-- The semaphore of the entry barrier. -/
abbrev barSem : Sem sig := (SemArray.scalar (sig.barrier 0 rfl) : Sems sig S_).sem

/-- Signal device `j`'s barrier. -/
def sigStep (j : Fin 32) : BProg F PUnit := semSignalWord (⟨sigDev j, sigDev_lt j⟩ : Dev nD) barSem 1#32

/-- The columns of `W` that group `g` after device `d`'s needs. -/
abbrev wCols (d : Dev nD) (g : Fin 8) : Memref sig .tc .hbm S4096x256 .f32 :=
  arg1.slice (Rect.unit (s := S4096x2048) (k0_off1 d (w8 g)) S4096x256.size (k0_off1_inb d g)) (fun _ => rfl)

/-- Half `s` of the double buffer for `W`. -/
abbrev wSlot (s : Fin 2) : Memref sig .tc .vmem S4096x256 .f32 :=
  (arg3.slice (Rect.unit (s := S2x4096x256) ![s.val, 0, 0] S1x4096x256.size (inb_w s)) (fun _ => rfl)).squeeze S4096x256 squeezes_S1x4096x256_S4096x256

/-- Its semaphore. -/
abbrev wSem (s : Fin 2) : DmaSem sig := ((arg6.slice (Rect.unit (s := S2) ![s.val] S1.size (inb_wsem s))).squeeze S_ squeezes_S1_S_).sem

/-- Start the copy of group `g`'s columns. -/
def wStart (d : Dev nD) (g : Fin 8) : BProg F PUnit :=
  Prog.lift (.enqueueDma (wCols arg1 d g) (.here (wSlot arg3 (nth 2 g.val))) (.dma (wSem arg6 (nth 2 g.val)))
    (View.wordExact_bits rfl) ((View.wordExact_bits rfl).reshape _ _) ⟨Or.inl rfl, trivial⟩)

/-- Wait for it. -/
def wWait (d : Dev nD) (g : Fin 8) : BProg F PUnit :=
  Prog.lift (.waitDma2 (wSem arg6 (nth 2 g.val)) (wCols arg1 d g) (wSlot arg3 (nth 2 g.val))
    (View.wordExact_bits rfl) ((View.wordExact_bits rfl).reshape _ _))

/-- Slot `p` of an array of 32 blocks. -/
abbrev bSlot (a : Memref sig .tc .vmem S32x64x128 .f32) (p : Fin 32) : Memref sig .tc .vmem S64x128 .f32 :=
  (a.slice (Rect.unit (s := S32x64x128) ![p.val, 0, 0] S1x64x128.size (inb_b p)) (fun _ => rfl)).squeeze S64x128 squeezes_S1x64x128_S64x128

/-- Semaphore `p` of an array of 32. -/
abbrev bSem (a : DmaSems sig S32) (p : Fin 32) : DmaSem sig := ((a.slice (Rect.unit (s := S32) ![p.val] S1.size (inb_bsem p))).squeeze S_ squeezes_S1_S_).sem

/-- A block's place in such an array at an offset, the blocks' own kind of place. -/
abbrev InbB (o : Fin 3 → Nat) : Prop := ∀ a, o a + S1x64x128.size a ≤ S32x64x128.size a

/-- The block at it. -/
abbrev atSlot (a : Memref sig .tc .vmem S32x64x128 .f32) (o : Fin 3 → Nat) (h : InbB o) : Memref sig .tc .vmem S64x128 .f32 :=
  (a.slice (Rect.unit (s := S32x64x128) o S1x64x128.size h) (fun _ => rfl)).squeeze S64x128 squeezes_S1x64x128_S64x128

/-- The product of one group's columns with the device's rows, transposed: 4 blocks of 64 columns. -/
def prodT (w : Vec F S1x4096x256 .f32) (x : Vec F S128x4096 .f32) : FVec F S256x128 .f32 := k0_pay1 w x

/-- Block `q` of it. -/
def piece (v : FVec F S256x128 .f32) (q : Fin 4) : FVec F S1x64x128 .f32 :=
  shapeCast S1x64x128 (extractStridedSlice S64x128 ![64 * q.val, 0] v (slices_q q)) shapeCasts_S64x128_S1x64x128

/-- Store block `q` of a group's product in slot `p` and send it to device `j`, to the slot at offset `o`, the arrival
    counted by the semaphore at `t`. -/
def sendCore (o : Fin 3 → Nat) (ho : InbB o) (t : Fin 1 → Nat) (ht : ∀ a, t a + S1.size a ≤ S32.size a) (j : Nat) (hj : j < nD)
    (v : FVec F S256x128 .f32) (q : Fin 4) (p : Fin 32) : BProg F PUnit := do
  let _ ← Prog.lift (.load arg4 (Rect.unit (s := S32x64x128) ![p.val, 0, 0] S1x64x128.size (inb_b p)).toLoadRect
    (View.loadsAt_vmem h_S1x64x128))
  Prog.lift (.store arg4 (Rect.unit (s := S32x64x128) ![p.val, 0, 0] S1x64x128.size (inb_b p)) (piece v q) Finset.univ
    (View.stores_vmem_bits_univ h_S1x64x128 rfl) (.inl rfl))
  Prog.lift (.enqueueDma (bSlot arg4 p) (.remote (Dev.tc (⟨j, hj⟩ : Dev nD)) (atSlot arg5 o ho) (.dma (bSem arg7 p)))
    (.dma ((arg8.slice (Rect.unit (s := S32) t S1.size ht)).squeeze S_ squeezes_S1_S_).sem)
    ((View.wordExact_bits rfl).reshape _ _) ((View.wordExact_bits rfl).reshape _ _) ⟨⟨rfl, Or.inl rfl⟩, trivial⟩)

/-- Store block `q` of group `g`'s product, the `p`-th of all, and send it. -/
def sendStep (d : Dev nD) (g : Fin 8) (v : FVec F S256x128 .f32) (q : Fin 4) (p : Fin 32) : BProg F PUnit :=
  sendCore arg4 arg5 arg7 arg8 (k0_off3 d) (k0_off3_inb d) (k0_off2 d (w8 g) (w4 q)) (k0_off2_inb d g q) (sendDev d p) (sendDev_lt d p) v q p

/-- Multiply group `g`'s columns and send its four blocks. -/
def group (d : Dev nD) (g : Fin 8) : BProg F PUnit := do
  wWait arg1 arg3 arg6 d g
  let w ← Prog.lift (.load arg3 (Rect.unit (s := S2x4096x256) ![(nth 2 g.val).val, 0, 0] S1x4096x256.size (inb_w _)).toLoadRect (View.loadsAt_vmem h_S1x4096x256))
  let x ← Prog.lift (.load arg0 (Rect.unit (s := S128x4096) ![0, 0] S128x4096.size inb_S128x4096_S128x4096_0_0).toLoadRect (View.loadsAt_vmem h_S128x4096))
  loop (fun q => sendStep arg4 arg5 arg7 arg8 d g (prodT w x) (nth 4 q) (nth 32 (4 * g.val + q))) 4 0

/-- Start the next group's copy, then do this group. -/
def groupStep (d : Dev nD) (i : Nat) : BProg F PUnit := do
  wStart arg1 arg3 arg6 d (nth 8 (i + 1))
  group arg0 arg1 arg3 arg4 arg5 arg6 arg7 arg8 d (nth 8 i)

/-- Wait for the block that arrives on semaphore `r`, at offset `o`, and store it transposed at offset `t`. -/
def recvCore (o o' : Fin 3 → Nat) (ho : InbB o) (ho' : InbB o') (t : Fin 2 → Nat) (ht : ∀ a, t a + S128x64.size a ≤ S4096x64.size a)
    (r : Fin 32) : BProg F PUnit := do
  Prog.lift (.waitDma2 (bSem arg8 r) (bSlot arg4 0) (atSlot arg5 o ho)
    ((View.wordExact_bits rfl).reshape _ _) ((View.wordExact_bits rfl).reshape _ _))
  let b ← Prog.lift (.load arg5 (Rect.unit (s := S32x64x128) o' S1x64x128.size ho').toLoadRect (View.loadsAt_vmem h_S1x64x128))
  let _ ← Prog.lift (.load arg2 (Rect.unit (s := S4096x64) t S128x64.size ht).toLoadRect (View.loadsAt_vmem h_S128x64))
  Prog.lift (.store arg2 (Rect.unit (s := S4096x64) t S128x64.size ht)
    (transpose S128x64 [1, 0] (shapeCast S64x128 b shapeCasts_S1x64x128_S64x128) transposes_S64x128_p1_0_S128x64) Finset.univ
    (View.stores_vmem_bits_univ h_S128x64 rfl) (.inl rfl))

/-- Wait for the block that arrives on semaphore `r`, and store it transposed. -/
def recvStep (d : Dev nD) (r : Fin 32) : BProg F PUnit :=
  recvCore arg2 arg4 arg5 arg8 (k0_off4 d (w32 r)) (k0_off5 d (w32 r)) (k0_off4_inb d r) (k0_off5_inb d r) (k0_off6 d (w32 r)) (k0_off6_inb d r) r

/-- Wait until the block in slot `p` has been read, told by the slot at offset `o`. -/
def sentCore (o : Fin 3 → Nat) (ho : InbB o) (p : Fin 32) : BProg F PUnit :=
  Prog.lift (.waitDma2 (bSem arg7 p) (atSlot arg5 o ho) (bSlot arg4 p) ((View.wordExact_bits rfl).reshape _ _) ((View.wordExact_bits rfl).reshape _ _))

/-- Wait until the block in slot `p` has been read. -/
def sentStep (d : Dev nD) (p : Fin 32) : BProg F PUnit := sentCore arg4 arg5 arg7 (k0_off3 d) (k0_off3_inb d) p

/-- The body. -/
def clean : BProg F PUnit := do
  let d : Dev nD ← Prog.lift .deviceId
  loop (fun j => sigStep (nth 32 j)) 32 0
  semWaitWord barSem 32#32
  wStart arg1 arg3 arg6 d 0
  loop (groupStep arg0 arg1 arg3 arg4 arg5 arg6 arg7 arg8 d) 7 0
  group arg0 arg1 arg3 arg4 arg5 arg6 arg7 arg8 d 7
  loop (fun r => recvStep arg2 arg4 arg5 arg8 d (nth 32 r)) 32 0
  loop (fun p => sentStep arg4 arg5 arg7 d (nth 32 p)) 32 0

/-! ### The places, computed -/

theorem off2_eq (d : Dev nD) (g : Fin 8) (q : Fin 4) :
    k0_off2 d (w8 g) (w4 q) = ![((dst d (nth 32 (4 * g.val + q.val)) : Fin 32) - (d : Fin 32)).val] := by revert d g q; decide +kernel
theorem sub_eq (d r : Fin 32) : ((d.val + 32) - r.val) % 32 = (d - r).val := by revert d r; decide +kernel
theorem off4_eq (d : Dev nD) (r : Fin 32) : k0_off4 d (w32 r) = ![((d : Fin 32) - r).val, 0, 0] := by rw [← sub_eq d r]; exact k0_off4_eq d r
theorem off5_eq (d : Dev nD) (r : Fin 32) : k0_off5 d (w32 r) = ![((d : Fin 32) - r).val, 0, 0] := by rw [← sub_eq d r]; exact k0_off5_eq d r
theorem off6_eq (d : Dev nD) (r : Fin 32) : k0_off6 d (w32 r) = ![128 * ((d : Fin 32) - r).val, 0] := by rw [← sub_eq d r]; exact k0_off6_eq d r
theorem inb_o (s : Fin 32) : ∀ a, (![128 * s.val, 0] : Fin 2 → Nat) a + S128x64.size a ≤ S4096x64.size a := by revert s; decide

/-- The `p`-th send of device `d` goes to device `dst d p`, to slot `d`, and is counted there by semaphore `dst d p - d`. -/
theorem sendStep_eq (d : Dev nD) (g : Fin 8) (v : FVec F S256x128 .f32) (q : Fin 4) (p : Fin 32) (hp : p = nth 32 (4 * g.val + q.val)) :
    sendStep arg4 arg5 arg7 arg8 d g v q p
      = sendCore arg4 arg5 arg7 arg8 ![d.val, 0, 0] (inb_b d) ![((dst d p : Fin 32) - (d : Fin 32)).val] (inb_bsem _) (dst d p).val (dst d p).isLt v q p := by
  unfold sendStep
  have h2 := off2_eq d g q
  rw [← hp] at h2
  congr 1
  · exact k0_off3_eq d
  · exact sendDev_eq d p

/-- The `r`-th receive of device `d` is of the block of device `d - r`. -/
theorem recvStep_eq (d : Dev nD) (r s : Fin 32) (hs : s = (d : Fin 32) - r) :
    recvStep arg2 arg4 arg5 arg8 (F := F) d r
      = recvCore arg2 arg4 arg5 arg8 ![s.val, 0, 0] ![s.val, 0, 0] (inb_b s) (inb_b s) ![128 * s.val, 0] (inb_o s) r := by
  subst hs
  unfold recvStep
  congr 1
  · exact off4_eq d r
  · exact off5_eq d r
  · exact off6_eq d r

theorem sentStep_eq (d : Dev nD) (p : Fin 32) :
    sentStep arg4 arg5 arg7 (F := F) d p = sentCore arg4 arg5 arg7 ![d.val, 0, 0] (inb_b d) p := by
  unfold sentStep
  congr 1
  exact k0_off3_eq d

end Parts

set_option maxHeartbeats 0 in
set_option maxRecDepth 100000 in
/-- The printed body is the body with its loops. -/
theorem body_eq_clean (arg0 : Memref sig .tc .vmem S128x4096 .f32) (harg0 : arg0.IsWhole) (arg1 : Memref sig .tc .hbm S4096x2048 .f32) (harg1 : arg1.IsWhole)
    (arg2 : Memref sig .tc .vmem S4096x64 .f32) (harg2 : arg2.IsWhole) (arg3 : Memref sig .tc .vmem S2x4096x256 .f32) (harg3 : arg3.IsWhole)
    (arg4 : Memref sig .tc .vmem S32x64x128 .f32) (harg4 : arg4.IsWhole) (arg5 : Memref sig .tc .vmem S32x64x128 .f32) (harg5 : arg5.IsWhole)
    (arg6 : DmaSems sig S2) (arg7 arg8 : DmaSems sig S32) :
    cc0_body (F := F) arg0 harg0 arg1 harg1 arg2 harg2 arg3 harg3 arg4 harg4 arg5 harg5 arg6 arg7 arg8
      = clean arg0 arg1 arg2 arg3 arg4 arg5 arg6 arg7 arg8 := by
  unfold cc0_body clean
  dsimp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, Prog.lift, bind, Prog.bind, pure, loop, groupStep, group, sendStep, sendCore, recvStep, recvCore, sentStep, sentCore, sigStep, wStart, wWait, semSignalWord, semWaitWord]
  rfl

end Cert.KernelIdeal.Gen
-- ==== Proof.Sched.lean ====
/-
  The protocol of the all-to-all: who signals and sends what to whom, and what each signal and each
  arrival hands over. Device `c` signals every device's barrier once, handing over the slot of its
  landing buffer that device writes; waits for the 32 units of its own barrier, after which it owns
  its slot in every device's landing buffer; sends block `p` to device `dst c p`, whose semaphore
  `dst c p - c` counts the arrival; and waits for the arrivals and the departures.
-/
module

public import proofs.«01_k».proof.Proof.Clean
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's copy, the protocol's (a duty is named by the device that pays it), local copies' -/

abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Numbers -/

/-- The number of the transfer by which `s` sends to `c`. -/
def back (s c : Fin 32) : Fin 32 := ⟨(c.val / 4 + 8 - s.val / 4) % 8 * 4 + c.val % 4, by omega⟩

theorem dst_back (s c : Fin 32) : dst s (back s c) = c := by revert s c; decide +kernel
theorem back_dst (s p : Fin 32) : back s (dst s p) = p := by revert s p; decide +kernel

/-- The 32 transfers of a device go to the 32 devices. -/
def dstEquiv (s : Fin 32) : Fin 32 ≃ Fin 32 := ⟨dst s, back s, back_dst s, dst_back s⟩

/-- The numbers from `i` on, and those below `i`. -/
def from_ (i : ℕ) : Finset (Fin 32) := Finset.univ.filter fun j => i ≤ j.val
def upto (i : ℕ) : Finset (Fin 32) := Finset.univ.filter fun j => j.val < i

theorem from_zero : from_ 0 = Finset.univ := by unfold from_; simp
theorem from_end : from_ 32 = ∅ := by decide
theorem upto_zero : upto 0 = ∅ := by decide
theorem upto_end : upto 32 = Finset.univ := by decide

theorem nth_val {i : ℕ} (h : i < 32) : (nth 32 i).val = i := Nat.mod_eq_of_lt h

theorem from_succ {i : ℕ} (h : i < 32) : from_ i = insert (nth 32 i) (from_ (i + 1)) := by
  ext j
  have := nth_val h
  simp only [from_, Finset.mem_insert, Finset.mem_filter, Finset.mem_univ, true_and, Fin.ext_iff]
  omega
theorem nth_notin_from {i : ℕ} (h : i < 32) : nth 32 i ∉ from_ (i + 1) := by
  have := nth_val h
  simp only [from_, Finset.mem_filter, Finset.mem_univ, true_and]
  omega
theorem upto_succ {i : ℕ} (h : i < 32) : upto (i + 1) = insert (nth 32 i) (upto i) := by
  ext j
  have := nth_val h
  simp only [upto, Finset.mem_insert, Finset.mem_filter, Finset.mem_univ, true_and, Fin.ext_iff]
  omega
theorem nth_notin_upto {i : ℕ} (h : i < 32) : nth 32 i ∉ upto i := by
  have := nth_val h
  simp only [upto, Finset.mem_filter, Finset.mem_univ, true_and]
  omega

/-! ## Buffers and cells -/

abbrev xM : Memref sig .tc .vmem S128x4096 .f32 := Memref.whole cc0_stg0_0
abbrev aM : Memref sig .tc .hbm S4096x2048 .f32 := Memref.whole main_arg1
abbrev oM : Memref sig .tc .vmem S4096x64 .f32 := Memref.whole cc0_stg1_0
abbrev wM : Memref sig .tc .vmem S2x4096x256 .f32 := Memref.whole cc0_scratch0
abbrev bM : Memref sig .tc .vmem S32x64x128 .f32 := Memref.whole cc0_scratch1
abbrev rM : Memref sig .tc .vmem S32x64x128 .f32 := Memref.whole cc0_scratch2

/-- The barrier's semaphore, the double buffer's two, the 32 of the departures, the 32 of the arrivals. -/
abbrev barL : SemLoc sig := .reg barSem
abbrev wS (s : Fin 2) : DmaSem sig := wSem cc0_scratch3 s
abbrev sendS (p : Fin 32) : DmaSem sig := bSem cc0_scratch4 p
abbrev recvS (r : Fin 32) : DmaSem sig := bSem cc0_scratch5 r

theorem wS_val (s : Fin 2) : (wS s).val = 2 + s.val := by revert s; decide +kernel
theorem sendS_val (p : Fin 32) : (sendS p).val = 4 + p.val := by revert p; decide +kernel
theorem recvS_val (r : Fin 32) : (recvS r).val = 36 + r.val := by revert r; decide +kernel

abbrev barCell (c : Dev nD) : GSem nD τ sig := ((c : Thread nD τ), barL)
abbrev sendCell (c : Dev nD) (p : Fin 32) : GSem nD τ sig := ((c : Thread nD τ), .dma (sendS p))
abbrev recvCell (c : Dev nD) (r : Fin 32) : GSem nD τ sig := ((c : Thread nD τ), .dma (recvS r))

/-- The protocol's cells on one device: the barrier's, the departures', the arrivals'. -/
abbrev CK : Type := Unit ⊕ (Fin 32 ⊕ Fin 32)
def csem : CK → SemLoc sig
  | .inl _ => barL
  | .inr (.inl p) => .dma (sendS p)
  | .inr (.inr r) => .dma (recvS r)
abbrev kcell (ck : Dev nD × CK) : GSem nD τ sig := ((ck.1 : Thread nD τ), csem ck.2)

theorem sendS_inj {p q : Fin 32} (h : (SemLoc.dma (sendS p) : SemLoc sig) = .dma (sendS q)) : p = q := by
  have h' := SemLoc.dma.inj h
  have := congrArg Fin.val h'
  rw [sendS_val, sendS_val] at this
  exact Fin.ext (by omega)
theorem recvS_inj {p q : Fin 32} (h : (SemLoc.dma (recvS p) : SemLoc sig) = .dma (recvS q)) : p = q := by
  have h' := SemLoc.dma.inj h
  have := congrArg Fin.val h'
  rw [recvS_val, recvS_val] at this
  exact Fin.ext (by omega)
theorem send_ne_recv (p q : Fin 32) : (SemLoc.dma (sendS p) : SemLoc sig) ≠ .dma (recvS q) := fun h => by
  have h' := SemLoc.dma.inj h
  have := congrArg Fin.val h'
  rw [sendS_val, recvS_val] at this
  omega
theorem w_ne_recv (s : Fin 2) (q : Fin 32) : (SemLoc.dma (wS s) : SemLoc sig) ≠ .dma (recvS q) := fun h => by
  have h' := SemLoc.dma.inj h
  have := congrArg Fin.val h'
  rw [wS_val, recvS_val] at this
  omega
theorem dma_ne_bar (q : DmaSem sig) : (SemLoc.dma q : SemLoc sig) ≠ barL := fun h => by cases h

/-- What one block credits. -/
abbrev N : ℕ := (bSlot rM 0).view.dmaCredit
theorem N_pos : 0 < N := View.dmaCredit_pos _ (by decide)

/-! ## Contents -/

/-- The rows of `x` device `c` holds, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Its copy of `W`. -/
def wAll (c : Dev nD) : Buf (Elt F) ((aM : Memref sig .tc .hbm S4096x2048 .f32).view.loc (c : Thread nD τ)) :=
  (s₀ m ρ).mem ((c : Thread nD τ).loc main_arg1)

/-- The columns of `W` its group `g` reads. -/
def wPart (c : Dev nD) (g : Fin 8) : FVec F S4096x256 .f32 := (wCols aM c g).view.read (Elt F) (wAll m ρ c)

/-- The transposed product of those with its rows. -/
def gprod (c : Dev nD) (g : Fin 8) : FVec F S256x128 .f32 :=
  matmul dot_S4096x256_S128x4096_S256x128_0_1_1_0_n_n none (wPart m ρ c g)
    (shapeCast S128x4096 (xstg m ρ c) shapeCasts_S128x4096_S128x4096) (constant S256x128 .f32 0x00000000#32)

/-- Block `q` of it. -/
def blkOf (c : Dev nD) (g : Fin 8) (q : Fin 4) : FVec F S64x128 .f32 :=
  extractStridedSlice S64x128 ![64 * q.val, 0] (gprod m ρ c g) (slices_q q)

/-- The block of its `p`-th transfer. -/
def blk (c : Dev nD) (p : Fin 32) : FVec F S64x128 .f32 := blkOf m ρ c ⟨p.val / 4, by omega⟩ ⟨p.val % 4, by omega⟩

omit [FloatOps F] in

theorem grp_eq (g : Fin 8) (q : Fin 4) : (⟨(nth 32 (4 * g.val + q.val)).val / 4, by omega⟩ : Fin 8) = g
    ∧ (⟨(nth 32 (4 * g.val + q.val)).val % 4, by omega⟩ : Fin 4) = q := by revert g q; decide +kernel

theorem blk_eq (c : Dev nD) (g : Fin 8) (q : Fin 4) : blk m ρ c (nth 32 (4 * g.val + q.val)) = blkOf m ρ c g q := by
  unfold blk; rw [(grp_eq g q).1, (grp_eq g q).2]

/-- The device whose rows row `i` of the result is one of, and which of its 128 rows. -/
def rowSrc (i : S4096x64.Idx) : Fin 32 := ⟨(i 0).val / 128, by have := (i 0).isLt; change _ < 4096 at this; show _ < 32; omega⟩
def rowIn (i : S4096x64.Idx) : S128x64.Idx
  | ⟨0, _⟩ => ⟨(i 0).val % 128, Nat.mod_lt _ (by decide)⟩
  | ⟨1, _⟩ => i 1

/-- A block as it is stored: its transpose. -/
def flip (b : FVec F S64x128 .f32) : FVec F S128x64 .f32 := transpose S128x64 [1, 0] b transposes_S64x128_p1_0_S128x64

/-- The kernel's result on device `c`: rows `128 s` to `128 s + 127` are the block device `s` sent it, transposed. -/
def outAt (c : Dev nD) : (cc0_stg1_0 : Ref sig .tc).ty.Contents (Elt F) := fun i =>
  flip (blk m ρ (rowSrc i) (back (rowSrc i) c)) (rowIn i)

/-! ## What is handed over -/

/-- Slot `s` of device `c`'s landing buffer, slot `p` of its outgoing blocks, half `s` of its double buffer. -/
def rPts (c : Dev nD) (s : Fin 32) (f : Buf (Elt F) ((bSlot rM s).view.loc (c : Thread nD τ))) : sProp 𝕄 :=
  (bSlot rM s).view.loc (c : Thread nD τ) ↦[(bSlot rM s).view.set]{fullShare} f
def bPts (c : Dev nD) (p : Fin 32) (f : Buf (Elt F) ((bSlot bM p).view.loc (c : Thread nD τ))) : sProp 𝕄 :=
  (bSlot bM p).view.loc (c : Thread nD τ) ↦[(bSlot bM p).view.set]{fullShare} f
def wPts (c : Dev nD) (s : Fin 2) (f : Buf (Elt F) ((wSlot wM s).view.loc (c : Thread nD τ))) : sProp 𝕄 :=
  (wSlot wM s).view.loc (c : Thread nD τ) ↦[(wSlot wM s).view.set]{fullShare} f

instance rPts_storable (c : Dev nD) (s f) : BI.Storable (upEmb : UEmb _ 𝕄) (rPts (F := F) c s f) := by unfold rPts; infer_instance
instance bPts_storable (c : Dev nD) (s f) : BI.Storable (upEmb : UEmb _ 𝕄) (bPts (F := F) c s f) := by unfold bPts; infer_instance

/-- Device `a`'s signal hands device `c` the slot of `a`'s landing buffer that `c` writes. -/
def barPay (c a : Dev nD) : sProp 𝕄 := iprop(∃ f, rPts (F := F) a c f)
/-- An arrival from `s` hands device `c` slot `s` of its landing buffer, holding the block. -/
def recvFrom (c s : Dev nD) : sProp 𝕄 :=
  iprop(∃ f, ⌜(bSlot rM s).view.read (Elt F) f = blk m ρ s (back s c)⌝ ∗ rPts (F := F) c s f)
/-- A departure hands the outgoing slot back. -/
def sendPay (c : Dev nD) (p : Fin 32) : sProp 𝕄 := iprop(∃ f, bPts (F := F) c p f)

instance barPay_storable (c a : Dev nD) : BI.Storable (upEmb : UEmb _ 𝕄) (barPay (F := F) c a) := by unfold barPay; infer_instance
instance recvFrom_storable (c s : Dev nD) : BI.Storable (upEmb : UEmb _ 𝕄) (recvFrom (F := F) m ρ c s) := by unfold recvFrom; infer_instance
instance sendPay_storable (c : Dev nD) (p : Fin 32) : BI.Storable (upEmb : UEmb _ 𝕄) (sendPay (F := F) c p) := by unfold sendPay; infer_instance

/-! ## The schedule -/

abbrev IsBar (g : GSem nD τ sig) : Prop := g.1.2 = .tc ∧ g.2 = barL
abbrev IsRecv (g : GSem nD τ sig) : Prop := ∃ r, g.2 = .dma (recvS r)
abbrev IsSend (g : GSem nD τ sig) : Prop := ∃ p, g.2 = .dma (sendS p)
abbrev IsXfer (g : GSem nD τ sig) : Prop := g.1.2 = .tc ∧ (IsSend g ∨ IsRecv g)

open Classical in
/-- One round: a barrier cell has a duty of one unit for each device, a departure's or an arrival's cell one duty of a
    block's credit. -/
def rd : Rounds.Schedule (GSem nD τ sig) (Fin 32) 𝕄 where
  duties g r := if r = 0 ∧ IsBar g then Finset.univ else if r = 0 ∧ IsXfer g then {0} else ∅
  unitless _ := False
  amount g _ _ := if g.2 = barL then 1 else N
  payload g _ d :=
    if g.2 = barL then barPay g.1.1 d
    else if h : IsRecv g then recvFrom m ρ g.1.1 (g.1.1 - h.choose)
    else if h : IsSend g then sendPay g.1.1 h.choose
    else iprop(emp)
  amount_pos g _ _ _ := by
    by_cases h : g.2 = barL
    · rw [if_pos h]; exact Nat.one_pos
    · rw [if_neg h]; exact N_pos

instance rd_payload_storable (g : GSem nD τ sig) (r : ℕ) (d : Fin 32) :
    BI.Storable (upEmb : UEmb _ 𝕄) ((rd (F := F) m ρ).payload g r d) := by
  dsimp only [rd]
  (repeat' split) <;> infer_instance

section Sched
variable (c : Dev nD)

theorem not_bar_dma (q : DmaSem sig) : ¬ IsBar ((c : Thread nD τ), .dma q) := fun h => dma_ne_bar q h.2
theorem isRecv (r : Fin 32) : IsRecv (recvCell c r) := ⟨r, rfl⟩
theorem isSend (p : Fin 32) : IsSend (sendCell c p) := ⟨p, rfl⟩
theorem not_isRecv_send (p : Fin 32) : ¬ IsRecv (sendCell c p) := fun ⟨r, h⟩ => send_ne_recv p r h

theorem duties_bar : (rd (F := F) m ρ).duties (barCell c) 0 = Finset.univ := by dsimp only [rd]; exact if_pos ⟨rfl, rfl, rfl⟩
theorem duties_send (p : Fin 32) : (rd (F := F) m ρ).duties (sendCell c p) 0 = {0} := by
  dsimp only [rd]; rw [if_neg (fun h => not_bar_dma c _ h.2)]; exact if_pos ⟨rfl, rfl, .inl (isSend c p)⟩
theorem duties_recv (r : Fin 32) : (rd (F := F) m ρ).duties (recvCell c r) 0 = {0} := by
  dsimp only [rd]; rw [if_neg (fun h => not_bar_dma c _ h.2)]; exact if_pos ⟨rfl, rfl, .inr (isRecv c r)⟩
theorem duties_later (g : GSem nD τ sig) : ∀ r, 1 ≤ r → (rd (F := F) m ρ).duties g r = ∅ :=
  fun r hr => by dsimp only [rd]; rw [if_neg fun h => by omega, if_neg fun h => by omega]

theorem amount_bar (d : Fin 32) : (rd (F := F) m ρ).amount (barCell c) 0 d = 1 := by dsimp only [rd]; exact if_pos rfl
theorem amount_dma (q : DmaSem sig) (d : Fin 32) : (rd (F := F) m ρ).amount ((c : Thread nD τ), .dma q) 0 d = N := by
  dsimp only [rd]; exact if_neg (dma_ne_bar q)

theorem expect_bar : (rd (F := F) m ρ).expect (barCell c) 0 = 32 := by
  unfold Schedule.expect Schedule.amountOf
  rw [duties_bar, Finset.sum_congr rfl fun d _ => amount_bar m ρ c d, Finset.sum_const, Finset.card_univ, Fintype.card_fin, smul_eq_mul]
theorem expect_send (p : Fin 32) : (rd (F := F) m ρ).expect (sendCell c p) 0 = N := by
  unfold Schedule.expect Schedule.amountOf; rw [duties_send, Finset.sum_singleton, amount_dma]
theorem expect_recv (r : Fin 32) : (rd (F := F) m ρ).expect (recvCell c r) 0 = N := by
  unfold Schedule.expect Schedule.amountOf; rw [duties_recv, Finset.sum_singleton, amount_dma]

theorem payload_bar (d : Fin 32) : (rd (F := F) m ρ).payload (barCell c) 0 d = barPay c d := by dsimp only [rd]; rw [if_pos rfl]
theorem payload_recv (r d : Fin 32) : (rd (F := F) m ρ).payload (recvCell c r) 0 d = recvFrom m ρ c (c - r) := by
  dsimp only [rd]
  rw [if_neg (dma_ne_bar _), dif_pos (isRecv c r), recvS_inj (isRecv c r).choose_spec.symm]
theorem payload_send (p d : Fin 32) : (rd (F := F) m ρ).payload (sendCell c p) 0 d = sendPay c p := by
  dsimp only [rd]
  rw [if_neg (dma_ne_bar _), dif_neg (not_isRecv_send c p), dif_pos (isSend c p), sendS_inj (isSend c p).choose_spec.symm]

/-- What the rest of a cell's round hands over, no duty taken. -/
theorem rest_bar : bigSep ((rd (F := F) m ρ).duties (barCell c) 0 \ ∅) (fun d => (rd (F := F) m ρ).payload (barCell c) 0 d)
    = bigSep Finset.univ fun a => barPay c a := by
  rw [Finset.sdiff_empty, duties_bar]; exact congrArg _ (funext fun d => payload_bar m ρ c d)
theorem rest_send (p : Fin 32) : bigSep ((rd (F := F) m ρ).duties (sendCell c p) 0 \ ∅) (fun d => (rd (F := F) m ρ).payload (sendCell c p) 0 d)
    = sendPay c p := by
  rw [Finset.sdiff_empty, duties_send, bigSep_singleton, payload_send]
theorem rest_recv (r : Fin 32) : bigSep ((rd (F := F) m ρ).duties (recvCell c r) 0 \ ∅) (fun d => (rd (F := F) m ρ).payload (recvCell c r) 0 d)
    = recvFrom m ρ c (c - r) := by
  rw [Finset.sdiff_empty, duties_recv, bigSep_singleton, payload_recv]

end Sched

/-! ## What each device owes at launch; the levels -/

/-- The cell device `c`'s `p`-th transfer credits on arrival. -/
abbrev landCell (c : Dev nD) (p : Fin 32) : GSem nD τ sig := recvCell (dst c p) (dst c p - c)

/-- Device `c` owes the arrivals of its transfers from `i` on; the barrier's units from device `i` on. -/
def OS (c : Dev nD) (i : ℕ) : CellTallies nD τ sig Unit := ∑ p ∈ from_ i, tallyAt (landCell c p) () N
def OB (i : ℕ) : CellTallies nD τ sig Unit := ∑ j ∈ from_ i, tallyAt (barCell j) () 1
def O₀ (c : Dev nD) : CellTallies nD τ sig Unit := OS c 0 + OB 0

theorem OS_succ (c : Dev nD) {i : ℕ} (h : i < 32) : OS c i = OS c (i + 1) + tallyAt (landCell c (nth 32 i)) () N := by
  unfold OS; rw [from_succ h, Finset.sum_insert (nth_notin_from h), add_comm]
theorem OB_succ {i : ℕ} (h : i < 32) : OB i = OB (i + 1) + tallyAt (barCell (nth 32 i)) () 1 := by
  unfold OB; rw [from_succ h, Finset.sum_insert (nth_notin_from h), add_comm]
theorem OS_end (c : Dev nD) : OS c 32 = 0 := by unfold OS; rw [from_end]; rfl
theorem OB_end : OB 32 = 0 := by unfold OB; rw [from_end]; rfl

theorem sum_pos {s : Finset (Fin 32)} {f : Fin 32 → GSem nD τ sig} {n : ℕ} {g : GSem nD τ sig} {u : Unit}
    (h : 0 < (∑ p ∈ s, tallyAt (f p) () n : CellTallies nD τ sig Unit) g u) : ∃ p, g = f p := by
  induction s using Finset.induction_on with
  | empty => exact absurd h (Nat.lt_irrefl 0)
  | insert a s ha ih =>
    rw [Finset.sum_insert ha, Pi.add_apply, Finsupp.add_apply, tallyAt_apply] at h
    by_cases hg : g = f a ∧ u = ()
    · exact ⟨a, hg.1⟩
    · rw [if_neg hg, zero_add] at h; exact ih h

def L (g : GSem nD τ sig) : Finset Unit := if g.1.2 = .tc then {()} else ∅
open Classical in
/-- Barriers at 1, arrivals at 2, everything else (staging, double buffer, departures) at 0. -/
def lv (g : GSem nD τ sig) (_ : Unit) : ℕ := if g.2 = barL then 1 else if IsRecv g then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (r : Fin 32) (u : Unit) : lv (recvCell c r) u = 2 := by
  unfold lv; rw [if_neg (dma_ne_bar _), if_pos (isRecv c r)]
theorem lv_low (c : Dev nD) (q : DmaSem sig) (hq : ∀ r, SemLoc.dma q ≠ .dma (recvS r)) (u : Unit) : lv ((c : Thread nD τ), .dma q) u = 0 := by
  unfold lv; rw [if_neg (dma_ne_bar _), if_neg fun ⟨r, h⟩ => hq r h]

theorem O_pos {c : Dev nD} {i k : ℕ} {g : GSem nD τ sig} {u : Unit} (h : 0 < (OS c i + OB k) g u) :
    (∃ p, g = landCell c p) ∨ ∃ j, g = barCell j := by
  rw [Pi.add_apply, Finsupp.add_apply] at h
  rcases Nat.eq_zero_or_pos (OS c i g u) with h0 | h0
  · rw [h0, zero_add] at h; exact .inr (sum_pos (f := fun j => barCell j) h)
  · exact .inl (sum_pos (f := landCell c) h0)

/-- While it owes only arrivals and barrier units, a device may wait for a semaphore that is neither. -/
theorem mayWait_low (c : Dev nD) (q : DmaSem sig) (hq : ∀ r, SemLoc.dma q ≠ .dma (recvS r)) (i k : ℕ) :
    (levAts L lv : sProp 𝕄) ⊢ MayWait (c : Thread nD τ) (.dma q) () (OS c i + OB k) := by
  refine MayOwe.of_cut (L := L) (lev := lv) 0 (fun p hp => by rw [Finset.mem_singleton.mp hp, L_tc]; exact Finset.mem_singleton_self _)
    (fun g u hg => by rcases O_pos hg with ⟨p, rfl⟩ | ⟨j, rfl⟩ <;> exact Finset.mem_singleton_self _)
    (fun p hp => by rw [Finset.mem_singleton.mp hp, lv_low c q hq]) (fun g u hg => ?_)
  rcases O_pos hg with ⟨p, rfl⟩ | ⟨j, rfl⟩
  · rw [lv_recv]; decide
  · rw [lv_bar]; decide

/-- At its barrier a device owes arrivals only, which are above. -/
theorem mayWait_bar (c : Dev nD) : (levAts L lv : sProp 𝕄) ⊢ MayWait (c : Thread nD τ) barL () (OS c 0) := by
  refine MayOwe.of_cut (L := L) (lev := lv) 1 (fun p hp => by rw [Finset.mem_singleton.mp hp, L_tc]; exact Finset.mem_singleton_self _)
    (fun g u hg => by obtain ⟨p, rfl⟩ := sum_pos (f := landCell c) hg; exact Finset.mem_singleton_self _)
    (fun p hp => by rw [Finset.mem_singleton.mp hp, lv_bar]) (fun g u hg => ?_)
  obtain ⟨p, rfl⟩ := sum_pos (f := landCell c) hg
  rw [lv_recv]; decide

/-! ## What a device starts from and ends with -/

/-- The protocol's cells, shared by all devices, under the names `K`: each one's invariant, and that it has reached its
    only round. -/
def records (K : Dev nD × CK → ℕ) : sProp 𝕄 :=
  bigSep Finset.univ fun ck : Dev nD × CK => iprop(cellInv ER (rd m ρ) (K ck) (kcell ck) ∗ reached ER (kcell ck) 0)

instance records_persistent (K : Dev nD × CK → ℕ) : BI.Persistent (records (F := F) m ρ K) := by unfold records; infer_instance

theorem records_at (K : Dev nD × CK → ℕ) (ck : Dev nD × CK) :
    records (F := F) m ρ K ⊢ iprop(cellInv ER (rd m ρ) (K ck) (kcell ck) ∗ reached ER (kcell ck) 0) := bigSep_elim (Finset.mem_univ ck)

/-- The positions and duty tokens device `c` starts with: at its own cells; and for the units it pays. -/
def ghost (c : Dev nD) : sProp 𝕄 :=
  iprop(atPos ER (barCell c) 0 ∅ 0 ∗ (bigSep Finset.univ fun p => atPos ER (sendCell c p) 0 ∅ 0) ∗ (bigSep Finset.univ fun r => atPos ER (recvCell c r) 0 ∅ 0)
    ∗ (bigSep Finset.univ fun j => dutyTok ER (barCell j) 0 c) ∗ (bigSep Finset.univ fun p => dutyTok ER (sendCell c p) 0 0)
    ∗ (bigSep Finset.univ fun p => dutyTok ER (landCell c p) 0 0))

/-- Its copy of `W`. -/
def aPts (c : Dev nD) : sProp 𝕄 := (aM : Memref sig .tc .hbm S4096x2048 .f32).view.loc (c : Thread nD τ) ↦{fullShare} wAll m ρ c

/-- What device `c`'s body starts from beside its scratch buffers. -/
def start (c : Dev nD) : sProp 𝕄 :=
  iprop((∃ K, records m ρ K ∗ ghost c) ∗ cred (tallyAt (barCell c) () 32) ∗ (bigSep Finset.univ fun r => cred (tallyAt (recvCell c r) () N)) ∗ levAts L lv
    ∗ (bigSep Finset.univ fun s => semVal ((c : Thread nD τ), .dma (wS s)) 0) ∗ aPts m ρ c)

/-- Its scratch buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
/-- After the point: the scratch buffers, every semaphore of the kernel at zero, and `W`. -/
def Φ₁ (c : Dev nD) : sProp 𝕄 :=
  iprop(scratch (F := F) c ∗ (bigSep Finset.univ fun s => semVal ((c : Thread nD τ), .dma (wS s)) 0)
    ∗ (bigSep Finset.univ fun p => semVal (sendCell c p) 0) ∗ (bigSep Finset.univ fun r => semVal (recvCell c r) 0) ∗ semVal (barCell c) 0 ∗ aPts m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.AllToAll
-- ==== Proof.Steps.lean ====
/-
  One step of the kernel's body at a time: what each needs and what it leaves.
-/
module

public import proofs.«01_k».proof.Proof.Sched
public import Idealize.ShloMosaic.Lib.Ring
public import Idealize.ShloMosaic.Lib.Pipeline.Value

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_sub_blocks pointsTo_sub_blocks_join_exists)

variable {F : FTy → Type} [FloatOps F]

local notation "𝕄" => MT nD τ sig Unit (Elt F) ℕ UU ℕ

variable (m : (ℓ : Loc nD τ sig) → Buf (Elt F) ℓ) (ρ : Dev nD → PrngReg)

/-! ## Running a program on a device -/

/-- Program `p` on device `c`, ending in `Q`. -/
abbrev run (c : Dev nD) {α : Type} (p : BProg F α) (Q : α → sProp 𝕄) : sProp 𝕄 :=
  wp frame (wpE (defs₀ (F := F)) 𝒱₀ (c : Thread nD τ) none) Set.univ p Q

/-- A loop keeps an invariant its step keeps. -/
theorem run_loop (c : Dev nD) (f : ℕ → BProg F PUnit) (I : ℕ → sProp 𝕄) (n : ℕ) : ∀ (i : ℕ) (Q : PUnit → sProp 𝕄),
    (∀ k, i ≤ k → k < i + n → ∀ Q' : PUnit → sProp 𝕄, iprop(I k ∗ (I (k + 1) -∗ Q' ⟨⟩)) ⊢ run c (f k) Q') →
    iprop(I i ∗ (I (i + n) -∗ Q ⟨⟩)) ⊢ run c (loop f n i) Q := by
  induction n with
  | zero =>
    intro i Q _
    unfold loop run
    rw [Prog.pure_eq_ret, wp_ret]
    iintro ⟨Hi, Hk⟩
    imodintro
    iapply Hk; iexact Hi
  | succ n ih =>
    intro i Q h
    unfold loop run
    rw [wp_bind]
    iintro ⟨Hi, Hk⟩
    iapply (h i (Nat.le_refl i) (by omega))
    isplitl [Hi]; · iexact Hi
    iintro Hi
    iapply (ih (i + 1) Q fun k h1 h2 => h k (by omega) (by omega))
    isplitl [Hi]; · iexact Hi
    rw [show i + 1 + n = i + (n + 1) by omega]
    iexact Hk

/-! ## The slots -/

theorem rset (p : Fin 32) : (bSlot rM p).view.set = (Rect.unit (s := S32x64x128) ![p.val, 0, 0] S1x64x128.size (inb_b p)).set :=
  (View.set_reshape _ _).trans (View.set_slice_whole _ _)
theorem bset (p : Fin 32) : (bSlot bM p).view.set = (Rect.unit (s := S32x64x128) ![p.val, 0, 0] S1x64x128.size (inb_b p)).set :=
  (View.set_reshape _ _).trans (View.set_slice_whole _ _)
theorem bset' (p : Fin 32) : (bM.access (Rect.unit (s := S32x64x128) ![p.val, 0, 0] S1x64x128.size (inb_b p))).set = (bSlot bM p).view.set :=
  (View.set_slice_whole _ _).trans (bset p).symm
theorem rset' (p : Fin 32) : (rM.access (Rect.unit (s := S32x64x128) ![p.val, 0, 0] S1x64x128.size (inb_b p))).set = (bSlot rM p).view.set :=
  (View.set_slice_whole _ _).trans (rset p).symm
theorem wset (s : Fin 2) : (wSlot wM s).view.set = (Rect.unit (s := S2x4096x256) ![s.val, 0, 0] S1x4096x256.size (inb_w s)).set :=
  (View.set_reshape _ _).trans (View.set_slice_whole _ _)

theorem wset' (s : Fin 2) : (wM.access (Rect.unit (s := S2x4096x256) ![s.val, 0, 0] S1x4096x256.size (inb_w s))).set = (wSlot wM s).view.set :=
  (View.set_slice_whole _ _).trans (wset s).symm

theorem blocks_disjoint (p p' : Fin 32) (h : p ≠ p') :
    Disjoint (Rect.unit (s := S32x64x128) ![p.val, 0, 0] S1x64x128.size (inb_b p)).set (Rect.unit (s := S32x64x128) ![p'.val, 0, 0] S1x64x128.size (inb_b p')).set :=
  lead_disjoint (s := S32x64x128) 0 1 (fun p : Fin 32 => ![p.val, 0, 0]) S1x64x128.size inb_b (fun b => (Nat.one_mul _).symm) rfl p p' h
theorem blocks_cover : Finset.univ.biUnion (fun p : Fin 32 => (Rect.unit (s := S32x64x128) ![p.val, 0, 0] S1x64x128.size (inb_b p)).set) = Finset.univ :=
  lead_cover (s := S32x64x128) 0 1 (fun p : Fin 32 => ![p.val, 0, 0]) S1x64x128.size inb_b (fun b => (Nat.one_mul _).symm)
    (fun b a ha => by fin_cases a; exact absurd rfl ha; rfl; rfl) rfl (fun a ha => by fin_cases a; exact absurd rfl ha; rfl; rfl) rfl
theorem halves_disjoint (p p' : Fin 2) (h : p ≠ p') :
    Disjoint (Rect.unit (s := S2x4096x256) ![p.val, 0, 0] S1x4096x256.size (inb_w p)).set (Rect.unit (s := S2x4096x256) ![p'.val, 0, 0] S1x4096x256.size (inb_w p')).set :=
  lead_disjoint (s := S2x4096x256) 0 1 (fun p : Fin 2 => ![p.val, 0, 0]) S1x4096x256.size inb_w (fun b => (Nat.one_mul _).symm) rfl p p' h
theorem halves_cover : Finset.univ.biUnion (fun p : Fin 2 => (Rect.unit (s := S2x4096x256) ![p.val, 0, 0] S1x4096x256.size (inb_w p)).set) = Finset.univ :=
  lead_cover (s := S2x4096x256) 0 1 (fun p : Fin 2 => ![p.val, 0, 0]) S1x4096x256.size inb_w (fun b => (Nat.one_mul _).symm)
    (fun b a ha => by fin_cases a; exact absurd rfl ha; rfl; rfl) rfl (fun a ha => by fin_cases a; exact absurd rfl ha; rfl; rfl) rfl

/-- A whole landing buffer is its 32 slots, and conversely. -/
theorem r_split (c : Dev nD) (f : Buf (Elt F) ((c : Thread nD τ).loc cc0_scratch2)) :
    ((c : Thread nD τ).loc cc0_scratch2 ↦{fullShare} f : sProp 𝕄) ⊢ bigSep Finset.univ fun p => iprop(∃ g, rPts (F := F) c p g) := by
  refine (Entails.of_eq (pointsTo_sub_blocks (ℓ := (c : Thread nD τ).loc cc0_scratch2) (I := fun p => (bSlot rM p).view.set)
    (fun p p' h => by rw [rset, rset]; exact blocks_disjoint p p' h) Finset.univ
    ((congrArg _ (funext fun p => rset p)).trans blocks_cover) f)).trans ?_
  exact bigSep_mono fun p _ => exists_intro (Φ := fun g => rPts (F := F) c p g) f
theorem r_join (c : Dev nD) (f₀ : Buf (Elt F) ((c : Thread nD τ).loc cc0_scratch2)) :
    bigSep Finset.univ (fun p => iprop(∃ g, rPts (F := F) c p g)) ⊢ (iprop(∃ f, (c : Thread nD τ).loc cc0_scratch2 ↦{fullShare} f) : sProp 𝕄) :=
  pointsTo_sub_blocks_join_exists (ℓ := (c : Thread nD τ).loc cc0_scratch2) (I := fun p => (bSlot rM p).view.set)
    (fun p p' h => by rw [rset, rset]; exact blocks_disjoint p p' h) Finset.univ
    ((congrArg _ (funext fun p => rset p)).trans blocks_cover) f₀
theorem b_split (c : Dev nD) (f : Buf (Elt F) ((c : Thread nD τ).loc cc0_scratch1)) :
    ((c : Thread nD τ).loc cc0_scratch1 ↦{fullShare} f : sProp 𝕄) ⊢ bigSep Finset.univ fun p => iprop(∃ g, bPts (F := F) c p g) := by
  refine (Entails.of_eq (pointsTo_sub_blocks (ℓ := (c : Thread nD τ).loc cc0_scratch1) (I := fun p => (bSlot bM p).view.set)
    (fun p p' h => by rw [bset, bset]; exact blocks_disjoint p p' h) Finset.univ
    ((congrArg _ (funext fun p => bset p)).trans blocks_cover) f)).trans ?_
  exact bigSep_mono fun p _ => exists_intro (Φ := fun g => bPts (F := F) c p g) f
theorem b_join (c : Dev nD) (f₀ : Buf (Elt F) ((c : Thread nD τ).loc cc0_scratch1)) :
    bigSep Finset.univ (fun p => iprop(∃ g, bPts (F := F) c p g)) ⊢ (iprop(∃ f, (c : Thread nD τ).loc cc0_scratch1 ↦{fullShare} f) : sProp 𝕄) :=
  pointsTo_sub_blocks_join_exists (ℓ := (c : Thread nD τ).loc cc0_scratch1) (I := fun p => (bSlot bM p).view.set)
    (fun p p' h => by rw [bset, bset]; exact blocks_disjoint p p' h) Finset.univ
    ((congrArg _ (funext fun p => bset p)).trans blocks_cover) f₀
theorem w_split (c : Dev nD) (f : Buf (Elt F) ((c : Thread nD τ).loc cc0_scratch0)) :
    ((c : Thread nD τ).loc cc0_scratch0 ↦{fullShare} f : sProp 𝕄) ⊢ bigSep Finset.univ fun p => iprop(∃ g, wPts (F := F) c p g) := by
  refine (Entails.of_eq (pointsTo_sub_blocks (ℓ := (c : Thread nD τ).loc cc0_scratch0) (I := fun p => (wSlot wM p).view.set)
    (fun p p' h => by rw [wset, wset]; exact halves_disjoint p p' h) Finset.univ
    ((congrArg _ (funext fun p => wset p)).trans halves_cover) f)).trans ?_
  exact bigSep_mono fun p _ => exists_intro (Φ := fun g => wPts (F := F) c p g) f
theorem w_join (c : Dev nD) (f₀ : Buf (Elt F) ((c : Thread nD τ).loc cc0_scratch0)) :
    bigSep Finset.univ (fun p => iprop(∃ g, wPts (F := F) c p g)) ⊢ (iprop(∃ f, (c : Thread nD τ).loc cc0_scratch0 ↦{fullShare} f) : sProp 𝕄) :=
  pointsTo_sub_blocks_join_exists (ℓ := (c : Thread nD τ).loc cc0_scratch0) (I := fun p => (wSlot wM p).view.set)
    (fun p p' h => by rw [wset, wset]; exact halves_disjoint p p' h) Finset.univ
    ((congrArg _ (funext fun p => wset p)).trans halves_cover) f₀

/-! ## What is read and written -/

abbrev bRect (p : Fin 32) : Rect S32x64x128 := Rect.unit (s := S32x64x128) ![p.val, 0, 0] S1x64x128.size (inb_b p)
abbrev wRect (s : Fin 2) : Rect S2x4096x256 := Rect.unit (s := S2x4096x256) ![s.val, 0, 0] S1x4096x256.size (inb_w s)
abbrev oRect (s : Fin 32) : Rect S4096x64 := Rect.unit (s := S4096x64) ![128 * s.val, 0] S128x64.size (inb_o s)

/-- A block stored in a slot is what the slot then reads. -/
theorem read_stored (p : Fin 32) (f : (bM : Memref sig .tc .vmem S32x64x128 .f32).view.ty.Contents (Elt F)) (b : FVec F S64x128 .f32) :
    (bSlot bM p).view.read (Elt F) ((bM.access (bRect p)).write (Elt F) f (shapeCast S1x64x128 b shapeCasts_S64x128_S1x64x128) Finset.univ) = b := by
  have h : (bSlot bM p).view.read (Elt F) ((bM.access (bRect p)).write (Elt F) f (shapeCast S1x64x128 b shapeCasts_S64x128_S1x64x128) Finset.univ)
      = shapeCast S64x128 ((bM.access (bRect p)).read (Elt F) ((bM.access (bRect p)).write (Elt F) f (shapeCast S1x64x128 b shapeCasts_S64x128_S1x64x128) Finset.univ))
          shapeCasts_S1x64x128_S64x128 := rfl
  rw [h, View.read_write_univ]
  exact shapeCast_shapeCast b _ _

/-- What is loaded from a slot, without its leading axis, is what the slot reads. -/
theorem read_slot (s : Fin 32) (f : (rM : Memref sig .tc .vmem S32x64x128 .f32).view.ty.Contents (Elt F)) :
    shapeCast S64x128 ((rM.access (bRect s)).read (Elt F) f) shapeCasts_S1x64x128_S64x128 = (bSlot rM s).view.read (Elt F) f := rfl
theorem read_half (s : Fin 2) (f : (wM : Memref sig .tc .vmem S2x4096x256 .f32).view.ty.Contents (Elt F)) :
    shapeCast S4096x256 ((wM.access (wRect s)).read (Elt F) f) shapeCasts_S1x4096x256_S4096x256 = (wSlot wM s).view.read (Elt F) f := rfl

/-! ## The steps -/

/-- Signal device `j`'s barrier: the slot of its own landing buffer `j` writes goes with it. -/
theorem run_sig (K : Dev nD × CK → ℕ) (c : Dev nD) (i : ℕ) (hi : i < 32) (W : Waits sig Unit) (Q : PUnit → sProp 𝕄) :
    iprop((records m ρ K ∗ owes (c : Thread nD τ) (OS c 0 + OB i) W ∗ dutyTok ER (barCell (nth 32 i)) 0 c ∗ barPay (F := F) (nth 32 i) c)
        ∗ (owes (c : Thread nD τ) (OS c 0 + OB (i + 1)) W -∗ Q ⟨⟩))
      ⊢ run c (sigStep (nth 32 i)) Q := by
  unfold sigStep run
  simp only [semSignalWord, Prog.lift, sigDev_eq]
  iintro ⟨⟨#HR, HO, Ht, Hp⟩, Hk⟩
  ihave #HI := (records_at m ρ K (nth 32 i, .inl ())) $$ HR
  icases HI with ⟨#HI, #Hr⟩
  iapply (Rounds.wp_signal 𝒱₀ ER (rd m ρ) (c : Thread nD τ) none (dst := ((nth 32 i : Dev nD) : Thread nD τ)) (κ := K (nth 32 i, .inl ()))
      (d := c) (by rw [duties_bar]; exact Finset.mem_univ _) ((amount_bar m ρ (nth 32 i) c).trans (by decide)) () (O₀ := OS c 0 + OB i) (OS c 0 + OB (i + 1))
      (by rw [OB_succ hi, add_assoc]; rfl)) $$ [HO Ht Hp]
  · isplitr; · iexact HI
    isplitl [HO]; · iexact HO
    isplitl [Ht]; · iexact Ht
    isplitl [Hp]; · rw [payload_bar]; iexact Hp
    iexact Hr
  iintro HO
  rw [wp_ret]; imodintro
  iapply Hk; iexact HO

/-- The barrier: 32 units in, every device's slot for this one with them. -/
theorem run_bar (K : Dev nD × CK → ℕ) (c : Dev nD) (W : Waits sig Unit) (Q : PUnit → sProp 𝕄) :
    iprop((records m ρ K ∗ levAts L lv ∗ owes (c : Thread nD τ) (OS c 0) W ∗ cred (tallyAt (barCell c) () 32) ∗ atPos ER (barCell c) 0 ∅ 0)
        ∗ ((∃ W, owes (c : Thread nD τ) (OS c 0) W) ∗ atPos ER (barCell c) 1 ∅ 0 ∗ bigSep Finset.univ (fun a => barPay (F := F) c a) -∗ Q ⟨⟩))
      ⊢ run c (semWaitWord barSem 32#32) Q := by
  unfold run
  simp only [semWaitWord, Prog.lift]
  iintro ⟨⟨#HR, #Hlev, HO, Hc, Hat⟩, Hk⟩
  ihave #HI := (records_at m ρ K (c, .inl ())) $$ HR
  icases HI with ⟨#HI, #Hr⟩
  iapply (Rounds.wp_wait_rest_token 𝒱₀ ER (rd m ρ) (c : Thread nD τ) none (κ := K (c, .inl ()))
      (wpE_semWait_eq 𝒱₀ (c : Thread nD τ) none Set.univ) (Set.mem_univ _) () (O := OS c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  ihave Hp := (Entails.of_eq (rest_bar m ρ c)) $$ Hp
  rw [wp_ret]; imodintro
  iapply Hk
  isplitl [HO]; · iexists _; iexact HO
  isplitl [Hat]; · iexact Hat
  iexact Hp

theorem sub_sub32 (a b : Fin 32) : a - (a - b) = b := by revert a b; decide +kernel

set_option maxHeartbeats 800000 in
/-- The transfer alone: the slot holds the block. -/
theorem run_xfer (K : Dev nD × CK → ℕ) (c : Dev nD) (i : ℕ) (hi : i < 32) (p : Fin 32) (hp : p = nth 32 i) (j : Dev nD) (hj : j = dst c p) (r : Fin 32)
    (hr : r = (dst c p : Fin 32) - (c : Fin 32))
    (f : Buf (Elt F) ((bSlot bM p).view.loc (c : Thread nD τ))) (hf : (bSlot bM p).view.read (Elt F) f = blk m ρ c p)
    {hsc : (bSlot rM c : Memref sig (Dev.tc j : Thread nD τ).2.kind .vmem S64x128 .f32).view.ref.isScScratch = false}
    {hsrc : (bSlot bM p).view.WordExact} {hdst : (bSlot rM c).view.WordExact}
    {hsem : DmaTarget.Typed .vmem (.dma (recvS r)) (.remote (Dev.tc j : Thread nD τ) (bSlot rM c) (.dma (sendS p)) hsc)}
    (W : Waits sig Unit) {Q : PUnit → sProp 𝕄} {k : PUnit → BProg F PUnit} :
    iprop(records m ρ K ∗ bPts c p f ∗ barPay (F := F) c (dst c p) ∗ owes (c : Thread nD τ) (OS c i) W ∗ dutyTok ER (sendCell c p) 0 0 ∗ dutyTok ER (landCell c p) 0 0)
      ⊢ iprop(((cred (tallyAt (sendCell c p) () N) ∗ owes (c : Thread nD τ) (OS c (i + 1)) W) -∗ run c (k ⟨⟩) Q)
          -∗ run c (.op (.enqueueDma (bSlot bM p) (.remote (Dev.tc j : Thread nD τ) (bSlot rM c) (.dma (sendS p)) hsc) (.dma (recvS r)) hsrc hdst hsem) k) Q) := by
  subst hj hr
  unfold run barPay
  iintro ⟨#HR, Hb, ⟨%fd, Hd⟩, HO, Hts, Htl⟩
  ihave #HI := (records_at m ρ K (c, .inr (.inl p))) $$ HR
  icases HI with ⟨#HIs, #Hrs⟩
  ihave #HI := (records_at m ρ K (dst c p, .inr (.inr (dst c p - c)))) $$ HR
  icases HI with ⟨#HIl, #Hrl⟩
  unfold bPts rPts
  iapply (Rounds.wp_send_pointsTo 𝒱₀ ER (rd m ρ) (c : Thread nD τ) none (κ₁ := K (c, .inr (.inl p))) (κ₂ := K (dst c p, .inr (.inr (dst c p - c))))
    (r₁ := 0) (r₂ := 0) (d₁ := 0) (d₂ := 0) (fs := f) (fd := fd)
    (by rw [duties_send]; exact Finset.mem_singleton_self _) (by rw [duties_recv]; exact Finset.mem_singleton_self _)
    () () N rfl (amount_dma m ρ c _ 0) (amount_dma m ρ (dst c p) _ 0) (O₀ := OS c i) (OS c (i + 1)) (by rw [OS_succ c hi, hp]) (W := W)
    (by
      rw [payload_send]; unfold sendPay bPts
      exact exists_intro (Φ := fun g => (bSlot bM p).view.loc (c : Thread nD τ) ↦[(bSlot bM p).view.set]{fullShare} g) _)
    (by
      rw [payload_recv]; unfold recvFrom rPts
      rw [show dst c p - (dst c p - c) = c from sub_sub32 _ _]
      iintro H
      iexists ((bSlot rM c).view.write (Elt F) fd ((bSlot bM p).view.read (Elt F) f) Finset.univ)
      isplitr
      · ipureintro
        rw [View.read_write_univ, back_dst, ← hf]
      · iexact H)) $$ [HO Hts Htl Hb Hd]
  · isplitr; · iexact HIs
    isplitr; · iexact HIl
    isplitl [Hb]; · iexact Hb
    isplitl [Hd]; · iexact Hd
    isplitl [HO]; · iexact HO
    isplitl [Hts]; · iexact Hts
    isplitr; · iexact Hrs
    isplitl [Htl]; · iexact Htl
    iexact Hrl

/-- Store a block and send it: the slot it lands in comes back to its owner holding the block. -/
theorem run_send (K : Dev nD × CK → ℕ) (c : Dev nD) (i : ℕ) (hi : i < 32) (v : FVec F S256x128 .f32) (q : Fin 4) (p : Fin 32) (hp : p = nth 32 i)
    (hv : extractStridedSlice S64x128 ![64 * q.val, 0] v (slices_q q) = blk m ρ c p) (W : Waits sig Unit) (Q : PUnit → sProp 𝕄) :
    iprop((records m ρ K ∗ owes (c : Thread nD τ) (OS c i) W ∗ dutyTok ER (sendCell c p) 0 0 ∗ dutyTok ER (landCell c p) 0 0 ∗ (∃ f, bPts (F := F) c p f)
          ∗ barPay (F := F) c (dst c p))
        ∗ (cred (tallyAt (sendCell c p) () N) ∗ owes (c : Thread nD τ) (OS c (i + 1)) W -∗ Q ⟨⟩))
      ⊢ run c (sendCore bM rM cc0_scratch4 cc0_scratch5 ![c.val, 0, 0] (inb_b c) ![((dst c p : Fin 32) - (c : Fin 32)).val] (inb_bsem _)
          (dst c p).val (dst c p).isLt v q p) Q := by
  unfold sendCore run
  simp only [Prog.lift, Prog.bind_op, Prog.bind_ret]
  iintro ⟨⟨#HR, HO, Hts, Htl, ⟨%f, Hb⟩, Hd⟩, Hk⟩
  unfold bPts
  iapply (wp_load_rect 𝒱₀ (c : Thread nD τ) none Set.univ (m := bM) (r := bRect p) (S := (bSlot bM p).view.set) (bset' p).le) $$ Hb; iintro Hb
  iapply (wp_store 𝒱₀ (c : Thread nD τ) none Set.univ (m := bM) (r := bRect p) (Mk := Finset.univ) (S := (bSlot bM p).view.set)
    (bset' p).le) $$ Hb; iintro Hb
  iapply (run_xfer m ρ K c i hi p hp (dst c p) rfl _ rfl _ (read_stored p f _ |>.trans hv) W) $$ [HO Hts Htl Hb Hd]
  · isplitr; · iexact HR
    isplitl [Hb]; · unfold bPts; iexact Hb
    isplitl [Hd]; · iexact Hd
    isplitl [HO]; · iexact HO
    isplitl [Hts]; · iexact Hts
    iexact Htl
  iintro ⟨Hc, HO⟩
  unfold run
  rw [wp_ret]; imodintro
  iapply Hk
  isplitl [Hc] <;> iassumption

/-- Wait until a block has been read: its slot is this device's again. -/
theorem run_sent (K : Dev nD × CK → ℕ) (c : Dev nD) (p : Fin 32) (W : Waits sig Unit) (Q : PUnit → sProp 𝕄) :
    iprop((records m ρ K ∗ owes (c : Thread nD τ) 0 W ∗ cred (tallyAt (sendCell c p) () N) ∗ atPos ER (sendCell c p) 0 ∅ 0)
        ∗ ((∃ W, owes (c : Thread nD τ) 0 W) ∗ atPos ER (sendCell c p) 1 ∅ 0 ∗ sendPay (F := F) c p -∗ Q ⟨⟩))
      ⊢ run c (sentCore bM rM cc0_scratch4 ![c.val, 0, 0] (inb_b c) p) Q := by
  unfold sentCore run
  simp only [Prog.lift]
  iintro ⟨⟨#HR, HO, Hc, Hat⟩, Hk⟩
  ihave #HI := (records_at m ρ K (c, .inr (.inl p))) $$ HR
  icases HI with ⟨#HI, #Hr⟩
  iapply (Rounds.wp_wait_rest_token 𝒱₀ ER (rd m ρ) (c : Thread nD τ) none (κ := K (c, .inr (.inl p)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_send m ρ c p)) $$ Hp
  rw [wp_ret]; imodintro
  iapply Hk
  isplitl [HO]; · iexists _; iexact HO
  isplitl [Hat]; · iexact Hat
  iexact Hp

/-- The rows of the result that hold the blocks of the sources `c`, `c - 1`, …, `i` of them. -/
def filled (c : Dev nD) (i : ℕ) (g : (cc0_stg1_0 : Ref sig .tc).ty.Contents (Elt F)) : Prop :=
  ∀ idx : S4096x64.Idx, ((c : Fin 32) - rowSrc idx).val < i → g idx = outAt m ρ c idx

/-- One more block stored is 128 more rows of the result. -/
theorem filled_succ (c : Dev nD) (i : ℕ) (hi : i < 32) (s : Fin 32) (hs : s = (c : Fin 32) - nth 32 i) (g : (cc0_stg1_0 : Ref sig .tc).ty.Contents (Elt F))
    (hg : filled m ρ c i g) (b : FVec F S64x128 .f32) (hb : b = blk m ρ s (back s c)) :
    filled m ρ c (i + 1) ((oM.access (oRect s)).write (Elt F) g (transpose S128x64 [1, 0] b transposes_S64x128_p1_0_S128x64) Finset.univ) := by
  intro idx hidx
  have hset : (oM.access (oRect s)).setOn Finset.univ = (oRect s).set := View.set_slice_whole _ _
  by_cases h : rowSrc idx = s
  · have hv := congrArg Fin.val h
    have e : idx = (oM.access (oRect s)).emb (rowIn idx) := by
      funext a
      fin_cases a
      · refine Fin.ext ?_
        show (idx 0).val = 128 * s.val + 1 * ((idx 0).val % 128)
        have : (idx 0).val / 128 = s.val := hv
        omega
      · refine Fin.ext ?_
        show (idx 1).val = 0 + 1 * (idx 1).val
        omega
    have hw := View.write_emb_of_mem (Val := Elt F) (v := oM.access (oRect s)) g (transpose S128x64 [1, 0] b transposes_S64x128_p1_0_S128x64)
      (Finset.mem_univ (rowIn idx))
    rw [← e] at hw
    rw [hw]
    unfold outAt flip
    rw [h, ← hb]
    rfl
  · rw [View.write_of_not_mem]
    · refine hg idx ?_
      have hne : (c : Fin 32) - rowSrc idx ≠ nth 32 i := fun e => h (by rw [hs, ← e, sub_sub32])
      have hne' : ((c : Fin 32) - rowSrc idx).val ≠ i := fun e => hne (Fin.ext (e.trans (nth_val hi).symm))
      omega
    · rw [hset]
      intro hmem
      have h0 := (Rect.mem_set_unit.mp hmem) 0
      refine h (Fin.ext ?_)
      show (idx 0).val / 128 = s.val
      have h1 : 128 * s.val ≤ (idx 0).val ∧ (idx 0).val < 128 * s.val + 128 := h0
      omega

/-- Wait for a block and store it, transposed. -/
theorem run_recv (K : Dev nD × CK → ℕ) (c : Dev nD) (i : ℕ) (hi : i < 32) (r s : Fin 32) (hr : r = nth 32 i) (hs : s = (c : Fin 32) - r)
    (g : (cc0_stg1_0 : Ref sig .tc).ty.Contents (Elt F)) (hg : filled m ρ c i g) (W : Waits sig Unit) (Q : PUnit → sProp 𝕄) :
    iprop((records m ρ K ∗ owes (c : Thread nD τ) 0 W ∗ cred (tallyAt (recvCell c r) () N) ∗ atPos ER (recvCell c r) 0 ∅ 0
          ∗ ((c : Thread nD τ).loc cc0_stg1_0 ↦{fullShare} g))
        ∗ ((∃ W, owes (c : Thread nD τ) 0 W) ∗ atPos ER (recvCell c r) 1 ∅ 0 ∗ (∃ f, rPts (F := F) c s f)
            ∗ (∃ g, ⌜filled m ρ c (i + 1) g⌝ ∗ (c : Thread nD τ).loc cc0_stg1_0 ↦{fullShare} g) -∗ Q ⟨⟩))
      ⊢ run c (recvCore oM bM rM cc0_scratch5 ![s.val, 0, 0] ![s.val, 0, 0] (inb_b s) (inb_b s) ![128 * s.val, 0] (inb_o s) r) Q := by
  unfold recvCore run
  simp only [Prog.lift, Prog.bind_op, Prog.bind_ret]
  iintro ⟨⟨#HR, HO, Hc, Hat, Hout⟩, Hk⟩
  ihave #HI := (records_at m ρ K (c, .inr (.inr r))) $$ HR
  icases HI with ⟨#HI, #Hr⟩
  iapply (Rounds.wp_wait_rest_token 𝒱₀ ER (rd m ρ) (c : Thread nD τ) none (κ := K (c, .inr (.inr r)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_recv m ρ c r)) $$ Hp
  rw [← hs]
  unfold recvFrom rPts
  icases Hp with ⟨%f, %hf, Hr⟩
  iapply (wp_load_rect 𝒱₀ (c : Thread nD τ) none Set.univ (m := rM) (r := bRect s) (S := (bSlot rM s).view.set) (rset' s).le) $$ Hr; iintro Hr
  iapply (wp_load_rect 𝒱₀ (c : Thread nD τ) none Set.univ (m := oM) (r := oRect s) (Finset.subset_univ _)) $$ Hout; iintro Hout
  iapply (wp_store 𝒱₀ (c : Thread nD τ) none Set.univ (m := oM) (r := oRect s) (Mk := Finset.univ) (Finset.subset_univ _)) $$ Hout; iintro Hout
  rw [wp_ret]; imodintro
  iapply Hk
  isplitl [HO]; · iexists _; iexact HO
  isplitl [Hat]; · iexact Hat
  isplitl [Hr]; · iexists f; iexact Hr
  iexists _
  isplitr
  · ipureintro
    exact filled_succ m ρ c i hi s (hr ▸ hs) g hg _ ((read_slot s f).trans hf)
  · iexact Hout

end Cert.AllToAll
-- ==== Proof.Body.lean ====
/-
  The kernel's body on one device: the loops of its steps, each by its invariant, in order.
-/
module

public import proofs.«01_k».proof.Proof.Steps

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The double buffer -/

/-- Each half of the double buffer reads `W` under half of its ownership. -/
def half (s : Fin 2) : PosShare TreeShare := if s = 0 then fullShare.left else fullShare.right

/-- That much of `W`. -/
def aHalf (c : Dev nD) (s : Fin 2) : sProp 𝕄 := (aM : Memref sig .tc .hbm S4096x2048 .f32).view.loc (c : Thread nD τ) ↦{half s} wAll m ρ c

theorem a_split (c : Dev nD) : aPts m ρ c ⊣⊢ iprop(aHalf m ρ c 0 ∗ aHalf m ρ c 1) :=
  pointsTo_share (PosShare.mem_left_op_right fullShare)

/-- Half `s` at rest. -/
def idle (c : Dev nD) (s : Fin 2) : sProp 𝕄 :=
  iprop((∃ f, wPts (F := F) c s f) ∗ aHalf m ρ c s ∗ semVal ((c : Thread nD τ), .dma (wS s)) 0)

/-- What group `g`'s copy credits. -/
abbrev NW (s : Fin 2) : ℕ := (wSlot wM s).view.dmaCredit
theorem NW_pos (s : Fin 2) : 0 < NW s := View.dmaCredit_pos _ (by show 0 < 1048576; omega)

/-- Group `g`'s copy under way in its half. -/
def busy (c : Dev nD) (g : Fin 8) : sProp 𝕄 :=
  iprop(∃ fd, Flight EC (c : Thread nD τ) (.dma (wS (nth 2 g.val))) () (NW (nth 2 g.val))
      iprop(((wSlot wM (nth 2 g.val)).view.loc (c : Thread nD τ) ↦[(wSlot wM (nth 2 g.val)).view.set]{fullShare}
          ((wSlot wM (nth 2 g.val)).view.write (Elt F) fd (wPart m ρ c g) Finset.univ))
        ∗ ((wCols aM c g).view.loc (c : Thread nD τ) ↦[(wCols aM c g).view.set]{half (nth 2 g.val)} wAll m ρ c))
    ∗ ((wCols aM c g).view.loc (c : Thread nD τ) ↦[Finset.univ \ (wCols aM c g).view.set]{half (nth 2 g.val)} wAll m ρ c))

/-- The copy's start, and its end, as single operations. -/
theorem wp_wStart (c : Dev nD) (g : Fin 8) (s : Fin 2) (fd : Buf (Elt F) ((wSlot wM s).view.loc (c : Thread nD τ)))
    {hsrc : (wCols aM c g).view.WordExact} {hdst : (wSlot wM s).view.WordExact} {hsem : DmaTarget.Typed (nD := nD) (τ := τ) (p := .tc) .hbm (.dma (wS s)) (.here (wSlot wM s))}
    {Q : PUnit → sProp 𝕄} {k : PUnit → BProg F PUnit} :
    iprop(((wCols aM c g).view.loc (c : Thread nD τ) ↦[(wCols aM c g).view.set]{half s} wAll m ρ c)
        ∗ ((wSlot wM s).view.loc (c : Thread nD τ) ↦[(wSlot wM s).view.set]{fullShare} fd) ∗ semVal ((c : Thread nD τ), .dma (wS s)) 0)
      ⊢ iprop((Flight EC (c : Thread nD τ) (.dma (wS s)) () (NW s)
            iprop(((wSlot wM s).view.loc (c : Thread nD τ) ↦[(wSlot wM s).view.set]{fullShare} ((wSlot wM s).view.write (Elt F) fd (wPart m ρ c g) Finset.univ))
              ∗ ((wCols aM c g).view.loc (c : Thread nD τ) ↦[(wCols aM c g).view.set]{half s} wAll m ρ c))
          -∗ run c (k ⟨⟩) Q)
        -∗ run c (.op (.enqueueDma (wCols aM c g) (.here (wSlot wM s)) (.dma (wS s)) hsrc hdst hsem) k) Q) :=
  wp_dmaLocal EC 𝒱₀ (c : Thread nD τ) none (src := wCols aM c g) (via := .same) (dst := wSlot wM s) (sm := .dma (wS s)) (hsrc := hsrc) (hdst := hdst) (hsem := hsem) (q := half s) (fs := wAll m ρ c) (Sd := (wSlot wM s).view.set) (fd := fd) () (NW s) rfl (NW_pos s) (Finset.Subset.refl _)
theorem wp_wWait (c : Dev nD) (g : Fin 8) (s : Fin 2) (D : sProp 𝕄) (O : CellTallies nD τ sig Unit) (W : Waits sig Unit)
    {hsrc : (wCols aM c g).view.WordExact} {hdst : (wSlot wM s).view.WordExact} {Q : PUnit → sProp 𝕄} {k : PUnit → BProg F PUnit} :
    iprop(Flight EC (c : Thread nD τ) (.dma (wS s)) () (NW s) D ∗ owes (c : Thread nD τ) O W ∗ MayWait (c : Thread nD τ) (.dma (wS s)) () O)
      ⊢ iprop((iprop(D ∗ semVal ((c : Thread nD τ), .dma (wS s)) 0 ∗ owes (c : Thread nD τ) O (insert (.dma (wS s), ()) W)) -∗ run c (k ⟨⟩) Q)
        -∗ run c (.op (.waitDma2 (wS s) (wCols aM c g) (wSlot wM s) hsrc hdst) k) Q) :=
  wp_waitLocalO EC 𝒱₀ (c : Thread nD τ) none () rfl

/-- Start a copy. -/
theorem run_wStart (c : Dev nD) (g : Fin 8) (s : Fin 2) (hs : s = nth 2 g.val) (Q : PUnit → sProp 𝕄) :
    iprop(idle m ρ c s ∗ (busy m ρ c g -∗ Q ⟨⟩)) ⊢ run c (wStart aM wM cc0_scratch3 c g) Q := by
  subst hs
  unfold wStart idle aHalf
  simp only [Prog.lift]
  iintro ⟨⟨⟨%fd, Hw⟩, Ha, Hv⟩, Hk⟩
  ihave Ha := (pointsTo_split_subset (Finset.subset_univ (wCols aM c g).view.set)).1 $$ Ha
  icases Ha with ⟨Hc, Hrest⟩
  unfold wPts
  iapply (wp_wStart m ρ c g (nth 2 g.val) fd) $$ [Hc Hw Hv]
  · isplitl [Hc]; · iexact Hc
    isplitl [Hw]; · iexact Hw
    iexact Hv
  iintro HF
  unfold run
  rw [wp_ret]; imodintro
  iapply Hk
  unfold busy
  iexists fd
  isplitl [HF]; · iexact HF
  iexact Hrest

/-- Wait for it: the half holds the group's columns. -/
theorem run_wWait (c : Dev nD) (g : Fin 8) (i : ℕ) (W : Waits sig Unit) (Q : PUnit → sProp 𝕄) :
    iprop((levAts L lv ∗ busy m ρ c g ∗ owes (c : Thread nD τ) (OS c i) W)
        ∗ ((∃ W, owes (c : Thread nD τ) (OS c i) W) ∗ (∃ f, ⌜(wSlot wM (nth 2 g.val)).view.read (Elt F) f = wPart m ρ c g⌝ ∗ wPts (F := F) c (nth 2 g.val) f)
            ∗ aHalf m ρ c (nth 2 g.val) ∗ semVal ((c : Thread nD τ), .dma (wS (nth 2 g.val))) 0 -∗ Q ⟨⟩))
      ⊢ run c (wWait aM wM cc0_scratch3 c g) Q := by
  unfold wWait busy
  simp only [Prog.lift]
  have h := mayWait_low (F := F) c (wS (nth 2 g.val)) (fun r => w_ne_recv _ r) i 32
  rw [OB_end, add_zero] at h
  iintro ⟨⟨#Hlev, ⟨%fd, HF, Hrest⟩, HO⟩, Hk⟩
  iapply (wp_wWait c g (nth 2 g.val) _ (OS c i) W) $$ [HF HO]
  · isplitl [HF]; · iexact HF
    isplitl [HO]; · iexact HO
    iapply h; iexact Hlev
  iintro ⟨⟨Hw, Hc⟩, Hv, HO⟩
  unfold run
  rw [wp_ret]; imodintro
  iapply Hk
  isplitl [HO]; · iexists _; iexact HO
  isplitl [Hw]
  · iexists ((wSlot wM (nth 2 g.val)).view.write (Elt F) fd (wPart m ρ c g) Finset.univ)
    isplitr; · ipureintro; exact View.read_write_univ ..
    unfold wPts; iexact Hw
  isplitl [Hc Hrest]
  · unfold aHalf
    iapply (pointsTo_split_subset (Finset.subset_univ (wCols aM c g).view.set)).2
    isplitl [Hc] <;> iassumption
  iexact Hv

/-! ## A group's four transfers -/

/-- One more of what is left; one more of what is done. -/
theorem from_step {i : ℕ} (h : i < 32) (Φ : Fin 32 → sProp 𝕄) : bigSep (from_ i) Φ = iprop(Φ (nth 32 i) ∗ bigSep (from_ (i + 1)) Φ) := by
  rw [from_succ h]; exact BI.bigSep_insert (nth_notin_from h)
theorem upto_step {i : ℕ} (h : i < 32) (Φ : Fin 32 → sProp 𝕄) : bigSep (upto (i + 1)) Φ = iprop(Φ (nth 32 i) ∗ bigSep (upto i) Φ) := by
  rw [upto_succ h]; exact BI.bigSep_insert (nth_notin_upto h)

/-- What the `p`-th transfer needs. -/
def sendNeed (c : Dev nD) (p : Fin 32) : sProp 𝕄 :=
  iprop(dutyTok ER (sendCell c p) 0 0 ∗ dutyTok ER (landCell c p) 0 0 ∗ (∃ f, bPts (F := F) c p f) ∗ barPay (F := F) c (dst c p))

/-- After `i` transfers. -/
def sendInv (c : Dev nD) (i : ℕ) : sProp 𝕄 :=
  iprop((∃ W, owes (c : Thread nD τ) (OS c i) W) ∗ bigSep (from_ i) (sendNeed (F := F) c) ∗ bigSep (upto i) fun p => cred (tallyAt (sendCell c p) () N))

/-- One group's four transfers. -/
theorem run_sends (K : Dev nD × CK → ℕ) (c : Dev nD) (g : Fin 8) (v : FVec F S256x128 .f32) (hv : v = gprod m ρ c g) (Q : PUnit → sProp 𝕄) :
    iprop((records m ρ K ∗ sendInv (F := F) c (4 * g.val)) ∗ (sendInv (F := F) c (4 * g.val + 4) -∗ Q ⟨⟩))
      ⊢ run c (loop (fun q => sendStep bM rM cc0_scratch4 cc0_scratch5 c g v (nth 4 q) (nth 32 (4 * g.val + q))) 4 0) Q := by
  suffices step : ∀ k, 0 ≤ k → k < 0 + 4 → ∀ Q' : PUnit → sProp 𝕄,
      iprop((records m ρ K ∗ sendInv (F := F) c (4 * g.val + k)) ∗ ((records m ρ K ∗ sendInv (F := F) c (4 * g.val + (k + 1))) -∗ Q' ⟨⟩))
        ⊢ run c (sendStep bM rM cc0_scratch4 cc0_scratch5 c g v (nth 4 k) (nth 32 (4 * g.val + k))) Q' by
    iintro ⟨⟨#HR, HS⟩, Hk⟩
    iapply (run_loop c _ (fun q => iprop(records m ρ K ∗ sendInv (F := F) c (4 * g.val + q))) 4 0 Q step)
    isplitl [HS]
    · isplitr; · iexact HR
      iexact HS
    iintro ⟨-, HS⟩
    iapply Hk; iexact HS
  intro k _ hk Q'
  rw [← Nat.add_assoc]
  have hi : 4 * g.val + k < 32 := by have := g.isLt; omega
  have hq : (nth 4 k).val = k := Nat.mod_eq_of_lt (by omega)
  have hp : nth 32 (4 * g.val + k) = nth 32 (4 * g.val + (nth 4 k).val) := by rw [hq]
  rw [sendStep_eq bM rM cc0_scratch4 cc0_scratch5 c g v (nth 4 k) _ hp]
  unfold sendInv
  rw [from_step hi, upto_step hi]
  unfold sendNeed
  iintro ⟨⟨#HR, ⟨%W, HO⟩, ⟨⟨Ht, Hl, Hb, Hd⟩, Hfrom⟩, Hup⟩, Hk⟩
  iapply (run_send m ρ K c (4 * g.val + k) hi v (nth 4 k) _ rfl (by rw [hp, blk_eq, hv]; rfl) W)
  isplitl [HO Ht Hl Hb Hd]
  · isplitr; · iexact HR
    isplitl [HO]; · iexact HO
    isplitl [Ht]; · iexact Ht
    isplitl [Hl]; · iexact Hl
    isplitl [Hb]; · iexact Hb
    iexact Hd
  iintro ⟨Hc, HO⟩
  iapply Hk
  isplitr; · iexact HR
  isplitl [HO]; · iexists W; iexact HO
  isplitl [Hfrom]; · iexact Hfrom
  isplitl [Hc]; · iexact Hc
  iexact Hup

theorem hz : (![0, 0] : Fin 2 → Nat) = fun _ => 0 := funext fun a => by fin_cases a <;> rfl
theorem read_x (f : (cc0_stg0_0 : Ref sig .tc).ty.Contents (Elt F)) :
    (xM : Memref sig .tc .vmem S128x4096 .f32).view.readAt (Elt F) (Rect.unit (s := S128x4096) ![0, 0] S128x4096.size inb_S128x4096_S128x4096_0_0).toLoadRect f = f :=
  Memref.readAt_unit_zero (Elt F) cc0_stg0_0 hz _ f

/-- The staged rows. -/
def xPts (c : Dev nD) : sProp 𝕄 := (c : Thread nD τ).loc cc0_stg0_0 ↦{fullShare} xstg m ρ c

/-- One group: its copy awaited, its product taken, its four blocks sent. -/
theorem run_group (K : Dev nD × CK → ℕ) (c : Dev nD) (g : Fin 8) (Q : PUnit → sProp 𝕄) :
    iprop((records m ρ K ∗ levAts L lv ∗ busy m ρ c g ∗ xPts m ρ c ∗ sendInv (F := F) c (4 * g.val))
        ∗ (idle m ρ c (nth 2 g.val) ∗ xPts m ρ c ∗ sendInv (F := F) c (4 * g.val + 4) -∗ Q ⟨⟩))
      ⊢ run c (group xM aM wM bM rM cc0_scratch3 cc0_scratch4 cc0_scratch5 c g) Q := by
  unfold group run
  simp only [wp_bind]
  iintro ⟨⟨#HR, #Hlev, HB, Hx, HS⟩, Hk⟩
  unfold sendInv
  icases HS with ⟨⟨%W, HO⟩, HS⟩
  iapply (run_wWait m ρ c g (4 * g.val) W)
  isplitl [HB HO]
  · isplitr; · iexact Hlev
    isplitl [HB]; · iexact HB
    iexact HO
  iintro ⟨HO, ⟨%f, %hf, Hw⟩, Ha, Hv⟩
  simp only [Prog.lift]
  unfold wPts xPts
  iapply (wp_load_rect 𝒱₀ (c : Thread nD τ) none Set.univ (m := wM) (r := wRect (nth 2 g.val)) (S := (wSlot wM (nth 2 g.val)).view.set) (wset' _).le) $$ Hw; iintro Hw
  rw [wp_ret]; imodintro
  iapply (wp_load 𝒱₀ (c : Thread nD τ) none Set.univ (m := xM) (Finset.subset_univ _)) $$ Hx; iintro Hx
  rw [wp_ret]; imodintro
  rw [read_x]
  iapply (run_sends m ρ K c g _ (show prodT _ _ = gprod m ρ c g from by unfold gprod; rw [← hf, ← read_half]; rfl))
  isplitl [HO HS]
  · isplitr; · iexact HR
    unfold sendInv
    isplitl [HO]; · iexact HO
    iexact HS
  iintro HS
  iapply Hk
  isplitl [Hw Ha Hv]
  · unfold idle wPts
    isplitl [Hw]; · iexists f; iexact Hw
    isplitl [Ha]; · iexact Ha
    iexact Hv
  isplitl [Hx]; · iexact Hx
  unfold sendInv
  iexact HS

/-! ## The loops -/

/-- The entry's 32 signals. -/
theorem run_sigs (K : Dev nD × CK → ℕ) (c : Dev nD) (W : Waits sig Unit) (Q : PUnit → sProp 𝕄) :
    iprop((records m ρ K ∗ owes (c : Thread nD τ) (OS c 0 + OB 0) W ∗ bigSep Finset.univ fun j => iprop(dutyTok ER (barCell j) 0 c ∗ barPay (F := F) j c))
        ∗ (owes (c : Thread nD τ) (OS c 0) W -∗ Q ⟨⟩))
      ⊢ run c (loop (fun j => sigStep (nth 32 j)) 32 0) Q := by
  suffices step : ∀ k, 0 ≤ k → k < 0 + 32 → ∀ Q' : PUnit → sProp 𝕄,
      iprop((records m ρ K ∗ owes (c : Thread nD τ) (OS c 0 + OB k) W ∗ bigSep (from_ k) fun j => iprop(dutyTok ER (barCell j) 0 c ∗ barPay (F := F) j c))
          ∗ ((records m ρ K ∗ owes (c : Thread nD τ) (OS c 0 + OB (k + 1)) W ∗ bigSep (from_ (k + 1)) fun j => iprop(dutyTok ER (barCell j) 0 c ∗ barPay (F := F) j c)) -∗ Q' ⟨⟩))
        ⊢ run c (sigStep (nth 32 k)) Q' by
    rw [← from_zero]
    iintro ⟨H, Hk⟩
    iapply (run_loop c _ (fun k => iprop(records m ρ K ∗ owes (c : Thread nD τ) (OS c 0 + OB k) W
      ∗ bigSep (from_ k) fun j => iprop(dutyTok ER (barCell j) 0 c ∗ barPay (F := F) j c))) 32 0 Q step)
    isplitl [H]; · iexact H
    rw [show 0 + 32 = 32 from rfl, OB_end, add_zero]
    iintro ⟨-, HO, -⟩
    iapply Hk; iexact HO
  intro k _ hk Q'
  rw [from_step (by omega)]
  iintro ⟨⟨#HR, HO, ⟨Ht, Hp⟩, Hrest⟩, Hk⟩
  iapply (run_sig m ρ K c k (by omega) W)
  isplitl [HO Ht Hp]
  · isplitr; · iexact HR
    isplitl [HO]; · iexact HO
    isplitl [Ht] <;> iassumption
  iintro HO
  iapply Hk
  isplitr; · iexact HR
  isplitl [HO] <;> iassumption

/-- Before group `i`: its copy under way, the other half at rest, the transfers of the groups before it issued. -/
def pipeInv (K : Dev nD × CK → ℕ) (c : Dev nD) (i : ℕ) : sProp 𝕄 :=
  iprop(records m ρ K ∗ levAts L lv ∗ busy m ρ c (nth 8 i) ∗ idle m ρ c (nth 2 (i + 1)) ∗ xPts m ρ c ∗ sendInv (F := F) c (4 * i))

theorem nth8_val {i : ℕ} (h : i < 8) : (nth 8 i).val = i := Nat.mod_eq_of_lt h
theorem nth2_two (i : ℕ) : nth 2 (i + 1 + 1) = nth 2 i := Fin.ext (by show (i + 1 + 1) % 2 = i % 2; omega)

/-- Groups 0 to 6, each starting the next one's copy first. -/
theorem run_pipe (K : Dev nD × CK → ℕ) (c : Dev nD) (Q : PUnit → sProp 𝕄) :
    iprop(pipeInv m ρ K c 0 ∗ (pipeInv m ρ K c 7 -∗ Q ⟨⟩))
      ⊢ run c (loop (groupStep xM aM wM bM rM cc0_scratch3 cc0_scratch4 cc0_scratch5 c) 7 0) Q := by
  refine run_loop c _ (pipeInv m ρ K c) 7 0 Q fun k _ hk Q' => ?_
  have hk : k < 7 := by omega
  have e1 : (nth 8 (k + 1)).val = k + 1 := nth8_val (by omega)
  have e0 : (nth 8 k).val = k := nth8_val (by omega)
  unfold groupStep run
  rw [wp_bind]
  unfold pipeInv
  iintro ⟨⟨#HR, #Hlev, HB, HI, Hx, HS⟩, Hk⟩
  iapply (run_wStart m ρ c (nth 8 (k + 1)) (nth 2 (k + 1)) (by rw [e1]))
  isplitl [HI]; · iexact HI
  iintro HB'
  iapply (run_group m ρ K c (nth 8 k))
  rw [e0, nth2_two]
  isplitl [HB Hx HS]
  · isplitr; · iexact HR
    isplitr; · iexact Hlev
    isplitl [HB]; · iexact HB
    isplitl [Hx] <;> iassumption
  iintro ⟨HI, Hx, HS⟩
  iapply Hk
  isplitr; · iexact HR
  isplitr; · iexact Hlev
  isplitl [HB']; · iexact HB'
  isplitl [HI]; · iexact HI
  isplitl [Hx]; · iexact Hx
  iexact HS

/-- After `i` arrivals. -/
def recvInv (c : Dev nD) (i : ℕ) : sProp 𝕄 :=
  iprop((∃ W, owes (c : Thread nD τ) 0 W) ∗ (bigSep (from_ i) fun r => iprop(cred (tallyAt (recvCell c r) () N) ∗ atPos ER (recvCell c r) 0 ∅ 0))
    ∗ (bigSep (upto i) fun r => iprop(atPos ER (recvCell c r) 1 ∅ 0 ∗ ∃ f, rPts (F := F) c (c - r) f))
    ∗ ∃ g, ⌜filled m ρ c i g⌝ ∗ (c : Thread nD τ).loc cc0_stg1_0 ↦{fullShare} g)

/-- The 32 arrivals. -/
theorem run_recvs (K : Dev nD × CK → ℕ) (c : Dev nD) (Q : PUnit → sProp 𝕄) :
    iprop((records m ρ K ∗ recvInv m ρ c 0) ∗ (recvInv m ρ c 32 -∗ Q ⟨⟩))
      ⊢ run c (loop (fun r => recvStep oM bM rM cc0_scratch5 c (nth 32 r)) 32 0) Q := by
  suffices step : ∀ k, 0 ≤ k → k < 0 + 32 → ∀ Q' : PUnit → sProp 𝕄,
      iprop((records m ρ K ∗ recvInv m ρ c k) ∗ ((records m ρ K ∗ recvInv m ρ c (k + 1)) -∗ Q' ⟨⟩))
        ⊢ run c (recvStep oM bM rM cc0_scratch5 c (nth 32 k)) Q' by
    iintro ⟨H, Hk⟩
    iapply (run_loop c _ (fun k => iprop(records m ρ K ∗ recvInv m ρ c k)) 32 0 Q step)
    isplitl [H]; · iexact H
    iintro ⟨-, H⟩
    iapply Hk; iexact H
  intro k _ hk Q'
  rw [recvStep_eq oM bM rM cc0_scratch5 c (nth 32 k) (c - nth 32 k) rfl]
  unfold recvInv
  rw [from_step (by omega), upto_step (by omega)]
  iintro ⟨⟨#HR, ⟨%W, HO⟩, ⟨⟨Hc, Hat⟩, Hfrom⟩, Hup, ⟨%g, %hg, Hout⟩⟩, Hk⟩
  iapply (run_recv m ρ K c k (by omega) (nth 32 k) (c - nth 32 k) rfl rfl g hg W)
  isplitl [HO Hc Hat Hout]
  · isplitr; · iexact HR
    isplitl [HO]; · iexact HO
    isplitl [Hc]; · iexact Hc
    isplitl [Hat] <;> iassumption
  iintro ⟨HO, Hat, Hr, Hout⟩
  iapply Hk
  isplitr; · iexact HR
  isplitl [HO]; · iexact HO
  isplitl [Hfrom]; · iexact Hfrom
  isplitl [Hat Hr Hup]
  · isplitl [Hat Hr]
    · isplitl [Hat] <;> iassumption
    iexact Hup
  iexact Hout

/-- After `i` departures are known of. -/
def sentInv (c : Dev nD) (i : ℕ) : sProp 𝕄 :=
  iprop((∃ W, owes (c : Thread nD τ) 0 W) ∗ (bigSep (from_ i) fun p => iprop(cred (tallyAt (sendCell c p) () N) ∗ atPos ER (sendCell c p) 0 ∅ 0))
    ∗ (bigSep (upto i) fun p => iprop(atPos ER (sendCell c p) 1 ∅ 0 ∗ sendPay (F := F) c p)))

/-- The 32 departures. -/
theorem run_sents (K : Dev nD × CK → ℕ) (c : Dev nD) (Q : PUnit → sProp 𝕄) :
    iprop((records m ρ K ∗ sentInv (F := F) c 0) ∗ (sentInv (F := F) c 32 -∗ Q ⟨⟩))
      ⊢ run c (loop (fun p => sentStep bM rM cc0_scratch4 c (nth 32 p)) 32 0) Q := by
  suffices step : ∀ k, 0 ≤ k → k < 0 + 32 → ∀ Q' : PUnit → sProp 𝕄,
      iprop((records m ρ K ∗ sentInv (F := F) c k) ∗ ((records m ρ K ∗ sentInv (F := F) c (k + 1)) -∗ Q' ⟨⟩))
        ⊢ run c (sentStep bM rM cc0_scratch4 c (nth 32 k)) Q' by
    iintro ⟨H, Hk⟩
    iapply (run_loop c _ (fun k => iprop(records m ρ K ∗ sentInv (F := F) c k)) 32 0 Q step)
    isplitl [H]; · iexact H
    iintro ⟨-, H⟩
    iapply Hk; iexact H
  intro k _ hk Q'
  rw [sentStep_eq]
  unfold sentInv
  rw [from_step (by omega), upto_step (by omega)]
  iintro ⟨⟨#HR, ⟨%W, HO⟩, ⟨⟨Hc, Hat⟩, Hfrom⟩, Hup⟩, Hk⟩
  iapply (run_sent m ρ K c (nth 32 k) W)
  isplitl [HO Hc Hat]
  · isplitr; · iexact HR
    isplitl [HO]; · iexact HO
    isplitl [Hc] <;> iassumption
  iintro ⟨HO, Hat, Hp⟩
  iapply Hk
  isplitr; · iexact HR
  isplitl [HO]; · iexact HO
  isplitl [Hfrom]; · iexact Hfrom
  isplitl [Hat Hp]
  · isplitl [Hat] <;> iassumption
  iexact Hup

/-! ## The whole body -/

omit [FloatOps F] in
theorem pair_eq (Φ : Fin 2 → sProp 𝕄) : bigSep Finset.univ Φ = iprop(Φ 0 ∗ Φ 1) := bigSep_univ_eq_bigSepL [0, 1] (by decide) (by decide) Φ

/-- A family of the device's cells, each past its only round, closes: their counters are the device's again, at zero. -/
theorem close (K : Dev nD × CK → ℕ) (c : Dev nD) (ι : Fin 32 → CK) :
    iprop(records m ρ K ∗ bigSep Finset.univ fun p => atPos ER (kcell (c, ι p)) 1 ∅ 0)
      ⊢ iprop(|={Set.univ}=> bigSep Finset.univ fun p => semVal (kcell (c, ι p)) 0 : sProp 𝕄) := by
  refine ((sep_mono_left (BI.bigSep_of_persistent (Finset.univ : Finset (Fin 32)) (records m ρ K))).trans ?_).trans (bigSep_fupd _ _)
  rw [← bigSep_sep']
  refine bigSep_mono fun p _ => ?_
  show iprop(records m ρ K ∗ atPos ER (kcell (c, ι p)) 1 ∅ 0) ⊢ iprop(|={Set.univ}=> semVal (kcell (c, ι p)) 0)
  iintro ⟨#HR, Hat⟩
  ihave #HI := (records_at m ρ K (c, ι p)) $$ HR
  icases HI with ⟨#HI, -⟩
  iapply (Rounds.cell_close ER (rd m ρ) (Set.mem_univ (K (c, ι p))) (fun h => h) (R := 0 + 1) (duties_later m ρ (kcell (c, ι p))))
  isplitr; · iexact HI
  iexact Hat

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem filled_zero (c : Dev nD) (g : (cc0_stg1_0 : Ref sig .tc).ty.Contents (Elt F)) : filled m ρ c 0 g := fun _ h => absurd h (Nat.not_lt_zero _)
theorem filled_all (c : Dev nD) (g : (cc0_stg1_0 : Ref sig .tc).ty.Contents (Elt F)) (h : filled m ρ c 32 g) : g = outAt m ρ c :=
  funext fun i => h i (Fin.isLt _)

/-- The one grid point. -/
def t₀ : Fin cfg0.N := t0_0
theorem fin_N (t : Fin cfg0.N) : t = t₀ := fin_N0 t

/-- Every slot a device owns on the others, by the transfer that writes it. -/
theorem bar_reindex (c : Dev nD) : bigSep Finset.univ (fun a => barPay (F := F) c a) = bigSep Finset.univ fun p => barPay (F := F) c (dst c p) :=
  bigSep_univ_equiv (dstEquiv c) fun a => barPay (F := F) c a

def subEquiv (c : Fin 32) : Fin 32 ≃ Fin 32 := ⟨fun r => c - r, fun r => c - r, sub_sub32 c, sub_sub32 c⟩
theorem recv_reindex (c : Dev nD) : bigSep Finset.univ (fun r : Fin 32 => iprop(∃ f, rPts (F := F) c (c - r) f)) = bigSep Finset.univ fun s => iprop(∃ f, rPts (F := F) c s f) :=
  (bigSep_univ_equiv (subEquiv c) fun s => iprop(∃ f, rPts (F := F) c s f)).symm

/-- Everything before a transfer is sent, gathered. -/
theorem send_start (c : Dev nD) (W : Waits sig Unit) :
    iprop(owes (c : Thread nD τ) (OS c 0) W ∗ (bigSep Finset.univ fun p => dutyTok ER (sendCell c p) 0 0) ∗ (bigSep Finset.univ fun p => dutyTok ER (landCell c p) 0 0)
        ∗ (bigSep Finset.univ fun p => iprop(∃ f, bPts (F := F) c p f)) ∗ bigSep Finset.univ fun a => barPay (F := F) c a)
      ⊢ sendInv (F := F) c 0 := by
  unfold sendInv sendNeed
  rw [from_zero, upto_zero, bar_reindex, bigSep_sep', bigSep_sep', bigSep_sep']
  iintro ⟨HO, Ht, Hl, Hb, Hd⟩
  isplitl [HO]; · iexists W; iexact HO
  isplitl [Ht Hl Hb Hd]
  · isplitl [Ht]; · iexact Ht
    isplitl [Hl]; · iexact Hl
    isplitl [Hb] <;> iassumption
  rw [BI.bigSep_empty]
  iempintro

/-- Every transfer sent. -/
theorem send_end (c : Dev nD) : sendInv (F := F) c (4 * (7 : Fin 8).val + 4)
    ⊢ iprop((∃ W, owes (c : Thread nD τ) 0 W) ∗ bigSep Finset.univ fun p => cred (tallyAt (sendCell c p) () N)) := by
  rw [show sendInv (F := F) c (4 * (7 : Fin 8).val + 4) = sendInv (F := F) c 32 from rfl]
  unfold sendInv
  rw [upto_end, OS_end]
  iintro ⟨HO, -, Hcs⟩
  isplitl [HO] <;> iassumption

/-- Before the first arrival; after the last. -/
theorem recv_start (c : Dev nD) (g : (cc0_stg1_0 : Ref sig .tc).ty.Contents (Elt F)) :
    iprop((∃ W, owes (c : Thread nD τ) 0 W) ∗ (bigSep Finset.univ fun r => cred (tallyAt (recvCell c r) () N)) ∗ (bigSep Finset.univ fun r => atPos ER (recvCell c r) 0 ∅ 0)
        ∗ (c : Thread nD τ).loc cc0_stg1_0 ↦{fullShare} g) ⊢ recvInv m ρ c 0 := by
  unfold recvInv
  rw [from_zero, upto_zero, bigSep_sep', BI.bigSep_empty]
  iintro ⟨HO, HcV, HaV, Hout⟩
  isplitl [HO]; · iexact HO
  isplitl [HcV HaV]
  · isplitl [HcV] <;> iassumption
  isplitr; · iempintro
  iexists g
  isplitr; · ipureintro; exact filled_zero m ρ c g
  iexact Hout
theorem recv_end (c : Dev nD) : recvInv m ρ c 32
    ⊢ iprop((∃ W, owes (c : Thread nD τ) 0 W) ∗ (bigSep Finset.univ fun r => atPos ER (recvCell c r) 1 ∅ 0) ∗ (bigSep Finset.univ fun s => iprop(∃ f, rPts (F := F) c s f))
        ∗ (c : Thread nD τ).loc cc0_stg1_0 ↦{fullShare} outAt m ρ c) := by
  unfold recvInv
  rw [from_end, upto_end, bigSep_sep', bigSep_sep', recv_reindex]
  iintro ⟨HO, -, ⟨HaV, Hr⟩, ⟨%g', %hg', Hout⟩⟩
  obtain rfl := filled_all m ρ c g' hg'
  isplitl [HO]; · iexact HO
  isplitl [HaV]; · iexact HaV
  isplitl [Hr] <;> iassumption

/-- Before the first departure is waited for; after the last. -/
theorem sent_start (c : Dev nD) :
    iprop((∃ W, owes (c : Thread nD τ) 0 W) ∗ (bigSep Finset.univ fun p => cred (tallyAt (sendCell c p) () N)) ∗ bigSep Finset.univ fun p => atPos ER (sendCell c p) 0 ∅ 0)
      ⊢ sentInv (F := F) c 0 := by
  unfold sentInv
  rw [from_zero, upto_zero, bigSep_sep', BI.bigSep_empty]
  iintro ⟨HO, Hcs, HaS⟩
  isplitl [HO]; · iexact HO
  isplitl [Hcs HaS]
  · isplitl [Hcs] <;> iassumption
  iempintro
theorem sent_end (c : Dev nD) : sentInv (F := F) c 32
    ⊢ iprop((∃ W, owes (c : Thread nD τ) 0 W) ∗ (bigSep Finset.univ fun p => atPos ER (sendCell c p) 1 ∅ 0) ∗ bigSep Finset.univ fun p => iprop(∃ f, bPts (F := F) c p f)) := by
  unfold sentInv
  rw [from_end, upto_end, bigSep_sep', bigSep_sep']
  iintro ⟨HO, -, HaS, Hb⟩
  isplitl [HO]; · iexact HO
  isplitl [HaS]; · iexact HaS
  iexact Hb

/-- The body, run on device `c`: from its scratch buffers, its protocol resources, its staged rows and its copy of `W`,
    to the scratch buffers, the counters at zero, and the result. -/
theorem run_clean (c : Dev nD) (W : Waits sig Unit) (g : (cc0_stg1_0 : Ref sig .tc).ty.Contents (Elt F)) (Q : PUnit → sProp 𝕄) :
    iprop((Φ₀ m ρ c ∗ owes (c : Thread nD τ) (O₀ c) W ∗ xPts m ρ c ∗ (c : Thread nD τ).loc cc0_stg1_0 ↦{fullShare} g)
        ∗ ((Φ₁ m ρ c ∗ (∃ W, owes (c : Thread nD τ) 0 W) ∗ xPts m ρ c ∗ (c : Thread nD τ).loc cc0_stg1_0 ↦{fullShare} outAt m ρ c) -∗ Q ⟨⟩))
      ⊢ run c (clean xM aM oM wM bM rM cc0_scratch3 cc0_scratch4 cc0_scratch5) Q := by
  unfold clean run
  simp only [Prog.lift, Prog.bind_op, Prog.bind_ret, wp_deviceId]
  refine BI.Entails.trans ?_ (wp_fupd _ _ _ _ _)
  show _ ⊢ wp _ _ _ _ _
  unfold Φ₀ start scratch ghost O₀
  rw [pair_eq fun s => semVal ((c : Thread nD τ), .dma (wS s)) 0]
  iintro ⟨⟨⟨⟨⟨%K, #HR, HaB, HaS, HaV, HtB, HtS, HtL⟩, HcB, HcV, #Hlev, Hv, Ha⟩, ⟨%f0, Hw⟩, ⟨%f1, Hb⟩, ⟨%f2, Hr⟩⟩, HO, Hx, Hout⟩, Hk⟩
  -- the entry: 32 signals out, 32 in
  ihave Hr := (r_split c f2) $$ Hr
  rw [wp_bind]
  iapply (run_sigs m ρ K c W)
  isplitl [HO HtB Hr]
  · isplitr; · iexact HR
    isplitl [HO]; · iexact HO
    rw [bigSep_sep']
    isplitl [HtB]; · iexact HtB
    iexact Hr
  iintro HO
  rw [wp_bind]
  iapply (run_bar m ρ K c W)
  isplitl [HO HcB HaB]
  · isplitr; · iexact HR
    isplitr; · iexact Hlev
    isplitl [HO]; · iexact HO
    isplitl [HcB] <;> iassumption
  iintro ⟨⟨%W1, HO⟩, HaB, Hd⟩
  -- the double buffer: the first copy started
  ihave Hw := (w_split c f0) $$ Hw
  ihave Ha := (a_split m ρ c).1 $$ Ha
  ihave Hw := (Entails.of_eq (pair_eq _)) $$ Hw
  icases Hw with ⟨Hw0, Hw1⟩
  icases Hv with ⟨Hv0, Hv1⟩
  icases Ha with ⟨Ha0, Ha1⟩
  ihave Hb := (b_split c f1) $$ Hb
  ihave HS := (send_start c W1) $$ [HO HtS HtL Hb Hd]
  · isplitl [HO]; · iexact HO
    isplitl [HtS]; · iexact HtS
    isplitl [HtL]; · iexact HtL
    isplitl [Hb] <;> iassumption
  rw [wp_bind]
  iapply (run_wStart m ρ c 0 0 rfl)
  isplitl [Hw0 Ha0 Hv0]
  · unfold idle
    isplitl [Hw0]; · iexact Hw0
    isplitl [Ha0] <;> iassumption
  iintro HB
  rw [wp_bind]
  iapply (run_pipe m ρ K c)
  isplitl [HB Hw1 Ha1 Hv1 Hx HS]
  · unfold pipeInv
    isplitr; · iexact HR
    isplitr; · iexact Hlev
    isplitl [HB]; · iexact HB
    isplitl [Hw1 Ha1 Hv1]
    · unfold idle
      isplitl [Hw1]; · iexact Hw1
      isplitl [Ha1] <;> iassumption
    isplitl [Hx]; · iexact Hx
    iexact HS
  unfold pipeInv
  iintro ⟨-, -, HB, HI0, Hx, HS⟩
  rw [wp_bind]
  iapply (run_group m ρ K c 7)
  isplitl [HB Hx HS]
  · isplitr; · iexact HR
    isplitr; · iexact Hlev
    isplitl [HB]; · iexact HB
    isplitl [Hx] <;> iassumption
  iintro ⟨HI1, Hx, HS⟩
  ihave HS := (send_end (F := F) c) $$ HS
  icases HS with ⟨HO, Hcs⟩
  -- the arrivals
  rw [wp_bind]
  iapply (run_recvs m ρ K c)
  isplitl [HO HcV HaV Hout]
  · isplitr; · iexact HR
    iapply (recv_start m ρ c g)
    isplitl [HO]; · iexact HO
    isplitl [HcV]; · iexact HcV
    isplitl [HaV] <;> iassumption
  iintro HV
  ihave HV := (recv_end m ρ c) $$ HV
  icases HV with ⟨HO, HaV, Hr, Hout⟩
  -- the departures
  iapply (run_sents m ρ K c)
  isplitl [HO Hcs HaS]
  · isplitr; · iexact HR
    iapply (sent_start (F := F) c)
    isplitl [HO]; · iexact HO
    isplitl [Hcs] <;> iassumption
  iintro HS
  ihave HS := (sent_end (F := F) c) $$ HS
  icases HS with ⟨HO, HaS, Hb⟩
  -- the cells close, the slots rejoin
  imod (close m ρ K c fun p => .inr (.inl p)) $$ [HaS] with HzS
  · isplitr; · iexact HR
    iexact HaS
  imod (close m ρ K c fun r => .inr (.inr r)) $$ [HaV] with HzV
  · isplitr; · iexact HR
    iexact HaV
  ihave #HI := (records_at m ρ K (c, .inl ())) $$ HR
  icases HI with ⟨#HI, -⟩
  imod (Rounds.cell_close ER (rd m ρ) (Set.mem_univ (K (c, .inl ()))) (fun h => h) (R := 0 + 1) (duties_later m ρ (barCell c))) $$ [HaB] with HzB
  · isplitr; · iexact HI
    iexact HaB
  imodintro
  iapply Hk
  ihave HI0 := (Entails.of_eq (show idle m ρ c (nth 2 (7 + 1)) = idle m ρ c 0 from rfl)) $$ HI0
  ihave HI1 := (Entails.of_eq (show idle m ρ c (nth 2 (7 : Fin 8).val) = idle m ρ c 1 from rfl)) $$ HI1
  unfold idle
  icases HI0 with ⟨Hw0, Ha0, Hv0⟩
  icases HI1 with ⟨Hw1, Ha1, Hv1⟩
  ihave Hw := ((Entails.of_eq (pair_eq (fun s => iprop(∃ f, wPts (F := F) c s f))).symm).trans (w_join c f0)) $$ [Hw0 Hw1]
  · isplitl [Hw0] <;> iassumption
  ihave Ha := (a_split m ρ c).2 $$ [Ha0 Ha1]
  · isplitl [Ha0] <;> iassumption
  ihave Hb := (b_join c f1) $$ Hb
  ihave Hr := (r_join c f2) $$ Hr
  isplitl [Hw Hb Hr Hv0 Hv1 HzS HzV HzB Ha]
  · unfold Φ₁ scratch
    isplitl [Hw Hb Hr]
    · isplitl [Hw]; · iexact Hw
      isplitl [Hb] <;> iassumption
    rw [pair_eq]
    isplitl [Hv0 Hv1]
    · isplitl [Hv0] <;> iassumption
    isplitl [HzS]; · iexact HzS
    isplitl [HzV]; · iexact HzV
    isplitl [HzB] <;> iassumption
  isplitl [HO]; · iexact HO
  isplitl [Hx] <;> iassumption

end Cert.AllToAll
-- ==== Proof.Run.lean ====
/-
  The launch: from a memory with every semaphore at zero, the devices' cells and duties are set up, each device runs
  the body, and every execution ends with each device's result computed, its copy of `W` unchanged and every
  semaphore at zero.
-/
module

public import proofs.«01_k».proof.Proof.Body

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body at the grid's one point -/

theorem whole_staged (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- Before the point: the buffers as the pipeline leaves them. -/
def pointPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def pointPost (c : Dev nD) : sProp 𝕄 :=
  iprop(Φ₁ m ρ c ∗ (dats m ρ 0 c).owesAt () t₀.succ ∗ stg c cc0_stg0_0 (xstg m ρ c) ∗ stg c cc0_stg1_0 (outAt m ρ c))

theorem staged_x (c : Dev nD) (d) : (dats m ρ 0 c).before (0 : Fin 2) t₀ d = xstg m ρ c := by
  unfold Dat.before; rw [if_pos (fetch0_0 t₀)]; rfl

theorem owes_start (c : Dev nD) : (dats m ρ 0 c).owesAt () t₀.castSucc ⊢ iprop(∃ W, owes (c : Thread nD τ) (O₀ c) W : sProp 𝕄) := by
  unfold Dat.owesAt Pipeline.owesWithin
  rw [show (dats m ρ 0 c).owed t₀.castSucc = O₀ c from rfl]
  iintro ⟨%W, %hW, HO⟩
  iexists W; iexact HO
theorem owes_end (c : Dev nD) : iprop(∃ W, owes (c : Thread nD τ) 0 W : sProp 𝕄) ⊢ (dats m ρ 0 c).owesAt () t₀.succ := by
  unfold Dat.owesAt Pipeline.owesWithin
  rw [show (dats m ρ 0 c).owed t₀.succ = 0 from rfl]
  iintro ⟨%W, HO⟩
  iexists W
  isplitr; · ipureintro; exact fun _ _ => Or.inl trivial
  iexact HO

theorem point_body (c : Dev nD) : pointPre m ρ c ⊢ wp frame (wpE (defs₀ (F := F)) 𝒱₀ (c : Thread nD τ) none) Set.univ
    (clean xM aM oM wM bM rM cc0_scratch3 cc0_scratch4 cc0_scratch5) (fun _ => pointPost m ρ c) := by
  unfold pointPre
  iintro ⟨HΦ, Ho, ⟨%d0, %g0, %hg0, Hx⟩, ⟨%d1, %g1, %hg1, Hout⟩⟩
  rw [staged_x m ρ c d0] at hg0
  subst hg0
  ihave Ho := (owes_start m ρ c) $$ Ho
  icases Ho with ⟨%W, HO⟩
  iapply (run_clean m ρ c W g1 fun _ => pointPost m ρ c)
  isplitl [HΦ Hx Hout HO]
  · isplitl [HΦ]; · iexact HΦ
    isplitl [HO]; · iexact HO
    isplitl [Hx]
    · unfold xPts; iexact Hx
    iexact Hout
  iintro ⟨HΦ, HO, Hx, Hout⟩
  unfold pointPost xPts
  isplitl [HΦ]; · iexact HΦ
  isplitl [HO]
  · iapply (owes_end m ρ c); iexact HO
  isplitl [Hx]
  · iexists _; isplitr; · (ipureintro; rfl)
    iexact Hx
  iexists _; isplitr; · (ipureintro; rfl)
  iexact Hout

set_option maxRecDepth 20000 in
/-- The body's obligation to the pipeline, on device `c`. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [whole_staged]
  show pointPre m ρ c ⊢ wp frame (wpE (defs₀ (F := F)) 𝒱₀ (c : Thread nD τ) none) Set.univ
    (cc0_body xM (Memref.isWhole_whole _) aM (Memref.isWhole_whole _) oM (Memref.isWhole_whole _) wM (Memref.isWhole_whole _)
      bM (Memref.isWhole_whole _) rM (Memref.isWhole_whole _) cc0_scratch3 cc0_scratch4 cc0_scratch5) (fun _ => pointPost m ρ c)
  rw [body_eq_clean]
  exact point_body m ρ c

/-! ## Cells and tokens at launch -/

/-- The kernel's own semaphores: the double buffer's, the departures', the arrivals'. -/
abbrev osem : Fin 2 ⊕ (Fin 32 ⊕ Fin 32) → SemLoc sig
  | .inl s => .dma (wS s)
  | .inr (.inl p) => .dma (sendS p)
  | .inr (.inr r) => .dma (recvS r)

theorem stage_sem (w : Fin 2) (s : Fin (cfg0.win w).nbuf) : ((cfg0.win w).sem s).val < 2 := by revert w s; decide
theorem dma_val {p q : DmaSem sig} (h : (SemLoc.dma p : SemLoc sig) = .dma q) : p.val = q.val := congrArg Fin.val (SemLoc.dma.inj h)

theorem ownSemFacts : Pipeline.OwnSemFacts cfg0.spec osem where
  isScoped := by
    rintro (s | p | r)
    · revert s; decide +kernel
    · revert p; decide +kernel
    · revert r; decide +kernel
  inj := by
    rintro (a | a | a) (b | b | b) h <;> have h := dma_val h <;> simp only [wS_val, sendS_val, recvS_val] at h
    case inl.inl => exact congrArg _ (Fin.ext (by omega))
    case inr.inl.inr.inl => exact congrArg _ (congrArg _ (Fin.ext (by omega)))
    case inr.inr.inr.inr => exact congrArg _ (congrArg _ (Fin.ext (by omega)))
    all_goals exact absurd h (by omega)
  disj := by
    rintro k w s h
    have hs := stage_sem w s
    rcases k with a | a | a <;> have h := dma_val h <;> simp only [wS_val, sendS_val, recvS_val] at h
    all_goals exact absurd (h ▸ hs) (by omega)

theorem share_eq (c : Dev nD) (w : Fin cfg0.W) : (dats m ρ 0 c).share w = fullShare := by unfold Dat.share; split <;> rfl

theorem csem_injective : Function.Injective csem := by
  rintro (a | a | a) (b | b | b) h
  · rfl
  · exact absurd h.symm (dma_ne_bar _)
  · exact absurd h.symm (dma_ne_bar _)
  · exact absurd h (dma_ne_bar _)
  · exact congrArg _ (congrArg _ (sendS_inj h))
  · exact absurd h (send_ne_recv _ _)
  · exact absurd h (dma_ne_bar _)
  · exact absurd h.symm (send_ne_recv _ _)
  · exact congrArg _ (congrArg _ (recvS_inj h))

theorem cell_dev {a b : Dev nD} {s t : SemLoc sig} (h : ((a : Thread nD τ), s) = ((b : Thread nD τ), t)) : a = b :=
  congrArg (fun g : GSem nD τ sig => g.1.1) h

theorem kcell_injective : Function.Injective kcell := by
  rintro ⟨c, k⟩ ⟨c', k'⟩ h
  exact Prod.ext (cell_dev h) (csem_injective (congrArg Prod.snd h))
/-- Every cell of the protocol. -/
def allCells : Finset (GSem nD τ sig) := Finset.univ.map ⟨kcell, kcell_injective⟩

/-- The duties device `c` pays: every barrier's, its departures', and those of its transfers' arrivals. -/
abbrev tokOf : Dev nD × (Dev nD ⊕ (Fin 32 ⊕ Fin 32)) → GSem nD τ sig × ℕ × Fin 32
  | (c, .inl j) => (barCell j, 0, c)
  | (c, .inr (.inl p)) => (sendCell c p, 0, 0)
  | (c, .inr (.inr p)) => (landCell c p, 0, 0)

theorem sub_cancel32 {d c c' : Fin 32} (h : d - c = d - c') : c = c' := by rw [← sub_sub32 d c, h, sub_sub32]

theorem land_inj {c c' : Dev nD} {p p' : Fin 32} (h : landCell c p = landCell c' p') : c = c' ∧ p = p' := by
  have h1 : dst c p = dst c' p' := cell_dev h
  have h2 : dst c p - c = dst c' p' - c' := recvS_inj (congrArg Prod.snd h)
  have h3 : c = c' := by rw [← h1] at h2; exact sub_cancel32 h2
  subst h3
  exact ⟨rfl, by rw [← back_dst c p, h1, back_dst]⟩

theorem tokOf_injective : Function.Injective tokOf := by
  rintro ⟨c, a | a | a⟩ ⟨c', b | b | b⟩ h
  · have h1 : a = b := cell_dev (congrArg Prod.fst h)
    have h2 : c = c' := congrArg (fun x => x.2.2) h
    rw [h1, h2]
  · exact absurd (congrArg (fun x => x.1.2) h).symm (dma_ne_bar _)
  · exact absurd (congrArg (fun x => x.1.2) h).symm (dma_ne_bar _)
  · exact absurd (congrArg (fun x => x.1.2) h) (dma_ne_bar _)
  · have h1 : c = c' := cell_dev (congrArg Prod.fst h)
    have h2 : a = b := sendS_inj (congrArg (fun x => x.1.2) h)
    rw [h1, h2]
  · exact absurd (congrArg (fun x => x.1.2) h) (send_ne_recv _ _)
  · exact absurd (congrArg (fun x => x.1.2) h) (dma_ne_bar _)
  · exact absurd (congrArg (fun x => x.1.2) h).symm (send_ne_recv _ _)
  · obtain ⟨h1, h2⟩ := land_inj (congrArg Prod.fst h)
    rw [h1, h2]
def allToks : Finset (GSem nD τ sig × ℕ × Fin 32) := Finset.univ.map ⟨tokOf, tokOf_injective⟩

/-- The launch's element: the pipeline's, the protocol's, and the unit of the local copies'. -/
def u₀ : UU :=
  (initOf (Pipeline.cells cfgs cellOf_inj) (Pipeline.launchToks cfgs cellOf_inj), (initOf allCells allToks, 1))

/-- The tokens of the duties device `c` pays. -/
def toks (c : Dev nD) : sProp 𝕄 :=
  iprop((bigSep Finset.univ fun j => dutyTok ER (barCell j) 0 c) ∗ (bigSep Finset.univ fun p => dutyTok ER (sendCell c p) 0 0)
    ∗ (bigSep Finset.univ fun p => dutyTok ER (landCell c p) 0 0))

/-- What the launch deals device `c`: its cells at their start, its positions at them, its tokens. -/
def G (c : Dev nD) : sProp 𝕄 :=
  iprop((bigSep Finset.univ fun k : CK => roundState ER (rd m ρ) (kcell (c, k)) 0)
    ∗ ((bigSep Finset.univ fun k : CK => atPos ER (kcell (c, k)) 0 ∅ 0) ∗ bigSep Finset.univ fun k : CK => reached ER (kcell (c, k)) 0) ∗ toks c)

/-- What it makes of that, with all devices' semaphores: the cells shared, the double buffer's semaphores kept. -/
def G' (c : Dev nD) : sProp 𝕄 :=
  iprop((∃ K, records m ρ K ∗ ghost c) ∗ bigSep Finset.univ fun s => semVal ((c : Thread nD τ), .dma (wS s)) 0)

theorem kcells_eq (Φ : CK → sProp 𝕄) : bigSep Finset.univ Φ
    = iprop(Φ (.inl ()) ∗ (bigSep Finset.univ fun p => Φ (.inr (.inl p))) ∗ bigSep Finset.univ fun r => Φ (.inr (.inr r))) := by
  rw [bigSep_univ_sum, bigSep_univ_sum, Finset.univ_unique, bigSep_singleton]; rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores, family by family. -/
theorem own_eq (c : Dev nD) : (Pipeline.ownSems0 (Ix := Unit) (Name := ℕ) (U := UU) (Lvl := ℕ) (Val := Elt F) (τ := τ) osem c : sProp 𝕄)
    = iprop((bigSep Finset.univ fun s => semVal ((c : Thread nD τ), .dma (wS s)) 0)
        ∗ (bigSep Finset.univ fun p => semVal (sendCell c p) 0) ∗ bigSep Finset.univ fun r => semVal (recvCell c r) 0) := by
  unfold Pipeline.ownSems0; rw [bigSep_univ_sum, bigSep_univ_sum]; rfl
/-- The barrier's is the one semaphore that outlives the kernel. -/
theorem unscoped_eq (c : Dev nD) : (unscopedSems0 c : sProp 𝕄) = semVal (barCell c) 0 := by
  unfold unscopedSems0; rw [bigSep_eq_bigSepL_of_eq [barL] (by decide) (by decide)]; rfl

/-- One device's cells get their invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => reached ER (kcell (c, k)) 0)
          ∗ ((bigSep Finset.univ fun k => atPos ER (kcell (c, k)) 0 ∅ 0) ∗ toks c ∗ bigSep Finset.univ fun s => semVal ((c : Thread nD τ), .dma (wS s)) 0)) := by
  have hI : iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  rw [own_eq, unscoped_eq]
  unfold G
  iintro ⟨⟨Hw, HS, HV⟩, HB, Hst, ⟨Hat, Hr⟩, Htok⟩
  imod hI $$ [HS HV HB Hst] with Hinv
  · isplitl [HS HV HB]
    · rw [kcells_eq]
      isplitl [HB]; · iexact HB
      isplitl [HS]; · iexact HS
      iexact HV
    iexact Hst
  imodintro
  isplitl [Hinv]; · iexact Hinv
  isplitl [Hr]; · iexact Hr
  isplitl [Hat]; · iexact Hat
  isplitl [Htok] <;> iassumption

theorem deal (K : Dev nD × CK → ℕ) (c : Dev nD) :
    iprop(records m ρ K ∗ ((bigSep Finset.univ fun k => atPos ER (kcell (c, k)) 0 ∅ 0) ∗ toks c ∗ bigSep Finset.univ fun s => semVal ((c : Thread nD τ), .dma (wS s)) 0))
      ⊢ G' m ρ c := by
  rw [kcells_eq]
  unfold G' ghost toks
  iintro ⟨#HR, ⟨HaB, HaS, HaV⟩, ⟨HtB, HtS, HtL⟩, Hw⟩
  isplitr [Hw]
  · iexists K
    isplitr; · iexact HR
    isplitl [HaB]; · iexact HaB
    isplitl [HaS]; · iexact HaS
    isplitl [HaV]; · iexact HaV
    isplitl [HtB]; · iexact HtB
    isplitl [HtS] <;> iassumption
  iexact Hw

/-- All devices' cells get their invariants at once, which all devices then share. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  suffices step : (bigSep Finset.univ fun c : Dev nD => iprop((bigSep Finset.univ fun k => iprop(∃ κ : ℕ, cellInv ER (rd m ρ) κ (kcell (c, k))))
          ∗ (bigSep Finset.univ fun k => reached ER (kcell (c, k)) 0)
          ∗ ((bigSep Finset.univ fun k => atPos ER (kcell (c, k)) 0 ∅ 0) ∗ toks c ∗ bigSep Finset.univ fun s => semVal ((c : Thread nD τ), .dma (wS s)) 0)) : sProp 𝕄)
      ⊢ bigSep Finset.univ (G' m ρ) from
    ((bigSep_mono fun c _ => alloc m ρ c).trans (bigSep_fupd _ _)).trans (BI.fupd_mono step)
  rw [bigSep_sep', bigSep_sep', ← bigSep_univ_prod (fun ck : Dev nD × CK => iprop(∃ κ : ℕ, cellInv ER (rd m ρ) κ (kcell ck))),
    ← bigSep_univ_prod (fun ck : Dev nD × CK => (reached ER (kcell ck) 0 : sProp 𝕄))]
  iintro ⟨HI, HR, Hl⟩
  ihave HK := (BI.bigSep_exists_pi Finset.univ (fun (ck : Dev nD × CK) (κ : ℕ) => (cellInv ER (rd m ρ) κ (kcell ck) : sProp 𝕄))) $$ HI
  icases HK with ⟨%K, HI⟩
  iapply ((sep_mono_left (BI.bigSep_of_persistent (Finset.univ : Finset (Dev nD)) (records m ρ K))).trans
    ((Entails.of_eq (bigSep_sep' _ _ _).symm).trans (bigSep_mono fun c _ => deal m ρ K c)))
  isplitr [Hl]
  · unfold records
    rw [bigSep_sep']
    isplitl [HI] <;> iassumption
  iexact Hl

/-! ## What is owed at launch, as credit -/

theorem tally_sum (s : Finset (Fin 32)) (f : Fin 32 → GSem nD τ sig) (n : ℕ) (g : GSem nD τ sig) :
    (∑ p ∈ s, tallyAt (f p) () n : CellTallies nD τ sig Unit) g () = ∑ p ∈ s, if g = f p then n else 0 := by
  induction s using Finset.induction_on with
  | empty => rfl
  | insert a s ha ih =>
    rw [Finset.sum_insert ha, Finset.sum_insert ha, Pi.add_apply, Finsupp.add_apply, tallyAt_apply, ih]
    simp only [and_true]

theorem owed_bar (d c : Dev nD) : O₀ d (barCell c) () = 1 := by
  unfold O₀ OS OB
  rw [Pi.add_apply, Finsupp.add_apply, tally_sum, tally_sum, from_zero,
    Finset.sum_eq_zero (fun p _ => if_neg fun h => dma_ne_bar _ (congrArg Prod.snd h).symm), zero_add,
    Finset.sum_eq_single c (fun j _ hj => if_neg fun h => hj (cell_dev h).symm) (fun h => absurd (Finset.mem_univ c) h), if_pos rfl]

theorem owed_recv (d c : Dev nD) (r : Fin 32) : O₀ d (recvCell c r) () = if d = c - r then N else 0 := by
  unfold O₀ OS OB
  rw [Pi.add_apply, Finsupp.add_apply, tally_sum, tally_sum, from_zero,
    Finset.sum_eq_zero (s := Finset.univ) (f := fun j => if recvCell c r = barCell j then 1 else 0) (fun p _ => if_neg fun h => dma_ne_bar _ (congrArg Prod.snd h)), add_zero]
  by_cases hd : d = c - r
  · have hr : r = c - d := by rw [hd, sub_sub32]
    rw [if_pos hd, Finset.sum_eq_single (back d c) (fun p _ hp => if_neg fun h => hp ?_) (fun h => absurd (Finset.mem_univ _) h), if_pos ?_]
    · show recvCell c r = recvCell (dst d (back d c)) (dst d (back d c) - d)
      rw [dst_back, hr]
    · rw [show c = dst d p from cell_dev h, back_dst]
  · rw [if_neg hd]
    refine Finset.sum_eq_zero fun p _ => if_neg fun h => hd ?_
    have h1 : c = dst d p := cell_dev h
    have h2 : r = dst d p - d := recvS_inj (congrArg Prod.snd h)
    rw [h2, h1, sub_sub32]

theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ, Fintype.card_fin,
    smul_eq_mul]
  rfl

theorem launch_recv (c : Dev nD) (r : Fin 32) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (c - r) fun _ => N,
    if_pos (Finset.mem_univ _)]

theorem creds (c : Dev nD) :
    (Pipeline.launchCred O₀ c : sProp 𝕄) ⊢ iprop(cred (tallyAt (barCell c) () 32) ∗ bigSep Finset.univ fun r => cred (tallyAt (recvCell c r) () N)) := by
  unfold Pipeline.launchCred
  rw [bigSep_univ_at _ barL, launch_bar]
  refine sep_mono_right ?_
  have hsub : (Finset.univ.map ⟨fun r : Fin 32 => (SemLoc.dma (recvS r) : SemLoc sig), fun _ _ h => recvS_inj h⟩) ⊆ Finset.univ.erase barL := by
    intro sm h
    obtain ⟨r, -, rfl⟩ := Finset.mem_map.mp h
    exact Finset.mem_erase.mpr ⟨dma_ne_bar _, Finset.mem_univ _⟩
  have hmap : (bigSep Finset.univ fun r => cred (tallyAt (recvCell c r) () N) : sProp 𝕄)
      = bigSep (Finset.univ.map ⟨fun r : Fin 32 => (SemLoc.dma (recvS r) : SemLoc sig), fun _ _ h => recvS_inj h⟩)
          fun sm => cred (tallyOn ((c : Thread nD τ), sm) (launchCredit (Pipeline.owing O₀) 0 ((c : Thread nD τ), sm))) := by
    rw [bigSep_map]
    exact bigSep_congr fun r _ => congrArg cred (launch_recv c r).symm
  rw [hmap]
  exact BI.bigSep_subset hsub

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G'
  iintro ⟨Ha, Hlev, Hcr, -, HG, Hw⟩
  ihave Hc := (creds (F := F) c) $$ Hcr
  icases Hc with ⟨HB, HV⟩
  imodintro
  isplitl
  · isplitl [HG]; · iexact HG
    isplitl [HB]; · iexact HB
    isplitl [HV]; · iexact HV
    isplitl [Hlev]; · iexact Hlev
    isplitl [Hw]; · iexact Hw
    unfold aPts; iexact Ha
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What survives the kernel on device `c`: its barrier semaphore at zero, its copy of `W`. -/
abbrev kept (c : Dev nD) : sProp 𝕄 := iprop(unscopedSems0 c ∗ aPts m ρ c)

theorem leave (c : Dev nD) :
    (dats m ρ 0 c).Φ (Fin.last cfg0.N) ⊢ iprop(kept m ρ c ∗ Pipeline.ownSems0 osem c ∗ Pipeline.scopedRest cfg0.spec c) := by
  rw [show (dats m ρ 0 c).Φ (Fin.last cfg0.N) = Φ₁ m ρ c from rfl, scopedRest0_eq, own_eq]
  unfold Φ₁ scratch kept
  rw [unscoped_eq]
  iintro ⟨Hr, Hw, HS, HV, HB, Ha⟩
  isplitl [HB Ha]
  · isplitl [HB] <;> iassumption
  isplitl [Hw HS HV]
  · isplitl [Hw]; · iexact Hw
    isplitl [HS] <;> iassumption
  iexact Hr

/-- A device may wait for any of the pipeline's copies, whatever it owes then. -/
theorem waits (c : Dev nD) : (levAts L lv : sProp 𝕄) ⊢ Pipeline.cellsWaits cfgs (dats m ρ) () 0 c :=
  Pipeline.cellsWaits_intro cfgs (dats m ρ) () 0 c fun w s t => by
    have hq : ∀ r, (SemLoc.dma ((cfg0.win w).sem s) : SemLoc sig) ≠ .dma (recvS r) := fun r h => by
      have h := dma_val h; have hs := stage_sem w s; rw [recvS_val] at h; omega
    rcases t with ⟨_ | _, ht⟩
    · exact mayWait_low c _ hq 0 0
    · show (levAts L lv : sProp 𝕄) ⊢ MayWait (c : Thread nD τ) _ () 0
      rw [MayWait_zero]; iintro -; iempintro

/-! ## The run -/

/-- What window `w`'s array holds at the end, on device `c`. -/
def finalA (c : Dev nD) (w : Fin cfg0.W) : Buf (Elt F) ((cfg0.win w).arr.view.loc (c : Thread nD τ)) := (dats m ρ 0 c).arrAt w cfg0.N

/-- The windows' arrays as computed, the copies of `W` unchanged. -/
def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_kept (c : Dev nD) (s' : Phys nD τ sig (Elt F)) : iprop(kept m ρ c ∗ emp ∗ SI s')
    ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  iintro ⟨⟨Hu, Ha⟩, -, HSI⟩
  ihave Ha := (show aPts m ρ c ⊢ (bigSep ({main_arg1} : Finset (Ref sig .tc)) fun b => ((c : Thread nD τ).loc b) ↦{fullShare} m ((c : Thread nD τ).loc b) : sProp 𝕄) from
    Entails.of_eq (by rw [bigSep_singleton]; rfl)) $$ Ha
  ihave H := (pointsTo_read_all ({main_arg1} : Finset (Ref sig .tc)) (fun b => (c : Thread nD τ).loc b) (fun b => m ((c : Thread nD τ).loc b)) s') $$ [Ha HSI]
  · isplitl [Ha] <;> iassumption
  icases H with ⟨%h1, HSI⟩
  ihave %h2 := (tcUnscoped_read c s') $$ [Hu HSI]
  · isplitl [Hu] <;> iassumption
  imodintro
  isplitr; · ipureintro; exact ⟨h2, h1 main_arg1 (Finset.mem_singleton_self _)⟩
  iexact HSI

set_option maxRecDepth 40000 in
/-- On 32 devices, for any float values, from any memory whose semaphores are at zero: every weakly fair execution of
    @main ends without fault, with each device's result as computed, `x` and `W` unchanged and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb (embR) _ _) $$ HX
      icases HX with ⟨HX, -⟩
      imod (fund_cells m ρ) $$ HX with HG
      imodintro
      isplitl [HP] <;> iassumption)
    (hglob := glob m ρ)
    (hA := fun _ _ => rfl) (hpf := fun _ k => k.elim0)
    (X := start m ρ) (Y := kept m ρ) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_kept m ρ)
    (hQ := fun _ h hs => ⟨fun c => ⟨fun w => (h c).1 w, (h c).2.2.2⟩, sem_eq_zero hs fun c => (h c).2.2.1⟩)

/-- `x`'s rows after the run are what they were. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllToAll
-- ==== Proof.Value.lean ====
/-
  The result in closed form: over the extended reals, the entry in row `i` and column `n` of device `c`'s result is the
  entry of `x · W` in row `i` and column `64 c + n`. So the devices' results are the column blocks of the product.
-/
module

public import proofs.«01_k».proof.Proof.Run
public import proofs.«01_k».proof.Proof.Gen.ReferenceIdeal
public import Idealize.ShloMosaic.PureOps.Ideal.Laws
public import Idealize.ShloMosaic.Lib.Layout
public import Idealize.ShloMosaic.Lib.ValueIdxCore
public import Idealize.ShloMosaic.Lib.StackMember

@[expose] public section

noncomputable section

namespace Cert.AllToAll

open Cert.KernelIdeal Cert.KernelIdeal.Gen

open Idealize.ShloMosaic
open Idealize.ShloMosaic.TcCoe
open Idealize.ShloMosaic.ValueIdx Idealize.ShloMosaic.StackMember
open Idealize.SL Idealize.SL.Sem

section Arrays
variable {F : FTy → Type} [FloatOps F]
variable (m : (ℓ : Loc nD τ sig) → Buf (Elt F) ℓ) (ρ : Dev nD → PrngReg)

/-- The rows of `x` device `c` is given, and its copy of `W`. -/
def xOf (c : Dev nD) : FVec F S128x4096 .f32 := m ((c : Thread nD τ).loc main_arg0)
def wOf (c : Dev nD) : FVec F S4096x2048 .f32 := m ((c : Thread nD τ).loc main_arg1)

/-- The rows of `x` as staged are the rows as given: the window is the whole array. -/
theorem xstg_eq (c : Dev nD) : xstg m ρ c = xOf m c :=
  Memref.read_access_unit_zero (Elt F) main_arg0
    (show (fun a => win0_0.index (0 : Fin 1) a * main_arg0.ty.shape.size a) = fun _ => 0 from
      funext fun a => by fin_cases a <;> decide) (fun a => by fin_cases a <;> decide) _

/-- The result array after the run is the kernel's result: its window too is the whole array. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      if_pos (flush0_1 (0 : Fin 1))]
    exact View.read_write_univ _ _
  exact (Memref.read_access_unit_zero (Elt F) main_v1
    (show (fun a => win0_1.index (0 : Fin 1) a * main_v1.ty.shape.size a) = fun _ => 0 from
      funext fun a => by fin_cases a <;> decide) (fun a => by fin_cases a <;> decide) _).symm.trans h

/-- Where a group's columns of `W` start. -/
theorem off_eq (c : Dev nD) (g : Fin 8) : k0_off1 c (w8 g) = ![0, 256 * ((c.val / 4 + g.val) % 8)] := by
  have h : ∀ (c : Dev nD) (g : Fin 8) (a : Fin 2), k0_off1 c (w8 g) a = (![0, 256 * ((c.val / 4 + g.val) % 8)] : Fin 2 → ℕ) a := by
    decide +kernel
  exact funext (h c g)

/-- A group's columns of `W`, by coordinates. -/
theorem wPart_apply (c : Dev nD) (g : Fin 8) (k : Fin 4096) (a : Fin 256) (l : Fin 2048)
    (hl : l.val = 256 * ((c.val / 4 + g.val) % 8) + a.val) :
    wPart m ρ c g (ix2 k a) = wOf m c (ix2 k l) := by
  have e := off_eq c g
  refine congrArg (wOf m c) (funext fun d => Fin.ext ?_)
  match d with
  | ⟨0, _⟩ =>
    show k0_off1 c (w8 g) 0 + 1 * k.val = k.val
    rw [e]; show 0 + 1 * k.val = k.val; omega
  | ⟨1, _⟩ =>
    show k0_off1 c (w8 g) 1 + 1 * a.val = l.val
    rw [e, hl]; show 256 * ((c.val / 4 + g.val) % 8) + 1 * a.val = _; omega

/-- A block by coordinates: its row is a column of the group, its column a row of `x`. -/
theorem blkOf_apply (c : Dev nD) (g : Fin 8) (q : Fin 4) (n : Fin 64) (r : Fin 128) (a : Fin 256) (ha : a.val = 64 * q.val + n.val) :
    blkOf m ρ c g q (ix2 n r) = gprod m ρ c g (ix2 a r) := by
  unfold blkOf
  refine extractStridedSlice_apply _ _ _ _ _ fun d => ?_
  match d with
  | ⟨0, _⟩ => exact ha
  | ⟨1, _⟩ => exact (Nat.zero_add r.val).symm

/-- A stored block by coordinates. -/
theorem flip_apply (b : FVec F S64x128 .f32) (r : Fin 128) (n : Fin 64) : flip b (ix2 r n) = b (ix2 n r) := by
  unfold flip
  refine transpose_apply _ _ _ _ _ fun d => ?_
  match d with
  | ⟨0, _⟩ => rfl
  | ⟨1, _⟩ => rfl

/-- The columns that device `s` sends device `c` are `c`'s own. -/
theorem sent_cols (s : Fin 32) (c : Dev nD) :
    256 * ((s.val / 4 + (back s c).val / 4) % 8) + 64 * ((back s c).val % 4) = 64 * c.val := by
  revert s c; decide +kernel

end Arrays

/-! ## Over the extended reals -/

section Reals
variable (m : (ℓ : Loc nD τ sig) → Buf (Elt Ideal) ℓ) (ρ : Dev nD → PrngReg)

/-- A group's transposed product, by coordinates. -/
theorem gprod_apply (c : Dev nD) (g : Fin 8) (a : Fin 256) (r : Fin 128) :
    gprod m ρ c g (ix2 a r) = ∑ k : Fin 4096, wPart m ρ c g (ix2 k a) * xOf m c (ix2 r k) := by
  unfold gprod
  rw [show shapeCast S128x4096 (xstg m ρ c) shapeCasts_S128x4096_S128x4096 = xOf m c from
    (shapeCast_self _ _).trans (xstg_eq m ρ c)]
  refine (Ideal.matmul_constant_zero_apply _ _ _ _ _).trans ?_
  rw [← Equiv.sum_comp (contrEquiv1 dot_S4096x256_S128x4096_S256x128_0_1_1_0_n_n 4096 rfl rfl).symm]
  refine Finset.sum_congr (M := EReal) rfl fun k _ => ?_
  have e := contrEquiv1_symm_val dot_S4096x256_S128x4096_S256x128_0_1_1_0_n_n 4096 rfl rfl k
  have hl : dot_S4096x256_S128x4096_S256x128_0_1_1_0_n_n.lhsIdx (ix2 a r) ((contrEquiv1 _ 4096 rfl rfl).symm k) = ix2 k a := by
    funext d; apply Fin.ext
    match d with
    | ⟨0, _⟩ => exact e
    | ⟨1, _⟩ => rfl
  have hr : dot_S4096x256_S128x4096_S256x128_0_1_1_0_n_n.rhsIdx (ix2 a r) ((contrEquiv1 _ 4096 rfl rfl).symm k) = ix2 r k := by
    funext d; apply Fin.ext
    match d with
    | ⟨0, _⟩ => rfl
    | ⟨1, _⟩ => exact e
  rw [hl, hr]

/-- Device `c`'s result, by coordinates: row `128 s + r` is device `s`'s row `r` times the columns that are `c`'s. -/
theorem outAt_apply (c : Dev nD) (i : Fin 4096) (n : Fin 64) (s : Dev nD) (r : Fin 128) (l : Fin 2048)
    (hi : i.val = 128 * s.val + r.val) (hl : l.val = 64 * c.val + n.val) :
    outAt m ρ c (ix2 i n) = ∑ k : Fin 4096,
      wOf m s (ix2 k l) * xOf m s (ix2 r k) := by
  have hs : rowSrc (ix2 i n) = s := Fin.ext (show i.val / 128 = s.val by omega)
  have hr : rowIn (ix2 i n) = ix2 r n := by
    funext d; apply Fin.ext
    match d with
    | ⟨0, _⟩ => show i.val % 128 = r.val; omega
    | ⟨1, _⟩ => rfl
  have hp := sent_cols s c
  have hlt : (back s c).val % 4 < 4 := Nat.mod_lt _ (by decide)
  unfold outAt
  rw [hs, hr, flip_apply]
  unfold blk
  rw [blkOf_apply m ρ s _ _ n r ⟨64 * ((back s c).val % 4) + n.val, by omega⟩ rfl, gprod_apply]
  refine Finset.sum_congr (M := EReal) rfl fun k _ => ?_
  rw [wPart_apply m ρ s _ k _ l (by rw [hl]; show _ = 256 * ((s.val / 4 + (back s c).val / 4) % 8) + (64 * ((back s c).val % 4) + n.val); omega)]

/-- When the devices hold the row blocks of `x` and each the whole of `W`, device `c`'s result is column block `c` of
    the product `x · W`. -/
theorem outAt_eq (x : FVec Ideal ⟨2, ![4096, 4096]⟩ .f32) (w : FVec Ideal ⟨2, ![4096, 2048]⟩ .f32)
    (hx : ∀ s : Dev nD, xOf m s = Layout.block ⟨2, ![128, 4096]⟩ ⟨2, ![4096, 4096]⟩ 0 32 s x)
    (hw : ∀ s : Dev nD, wOf m s = w) (c : Dev nD) :
    outAt m ρ c = Layout.block ⟨2, ![4096, 64]⟩ ⟨2, ![4096, 2048]⟩ 1 32 c
      (Host.dotGeneral (DotDims.plain 4096 4096 2048) none x w) := by
  funext j
  obtain ⟨i, n, rfl⟩ : ∃ (i : Fin 4096) (n : Fin 64), j = ix2 i n := ⟨j 0, j 1, eq_ix2 j⟩
  have hc : c.val < 32 := c.isLt
  rw [outAt_apply m ρ c i n ⟨i.val / 128, show _ < 32 by omega⟩ ⟨i.val % 128, Nat.mod_lt _ (by decide)⟩ ⟨64 * c.val + n.val, by omega⟩
    (show i.val = 128 * (i.val / 128) + i.val % 128 by omega) rfl]
  rw [Layout.block_apply]
  have hj : ∀ h : Layout.Tiles ⟨2, ![4096, 64]⟩ ⟨2, ![4096, 2048]⟩ 1 32, h.idx c (ix2 i n) = ix2 i ⟨64 * c.val + n.val, by omega⟩ := fun h => by
    funext d; apply Fin.ext
    match d with
    | ⟨0, _⟩ => exact (Layout.idx_cols_val h c _).1
    | ⟨1, _⟩ => exact (Layout.idx_cols_val h c _).2.trans (show c.val * 64 + n.val = 64 * c.val + n.val by omega)
  rw [hj, dotGeneral_plain_apply]
  refine Finset.sum_congr (M := EReal) rfl fun k _ => ?_
  rw [hw, hx, Layout.block_apply, mul_comm]
  refine congrArg (x · * _) ?_
  funext d; apply Fin.ext
  match d with
  | ⟨0, _⟩ => exact (Layout.idx_rows_val _ _ _).1.trans (show i.val / 128 * 128 + i.val % 128 = i.val by omega)
  | ⟨1, _⟩ => exact (Layout.idx_rows_val _ _ _).2

end Reals

end Cert.AllToAll
-- ==== Proof.lean ====
/-
  The certificate's claims, put together: every run of the kernel ends with its arguments unchanged and its semaphores
  at zero, at the machine's words and over the extended reals; so does the reference's; and over the extended reals the
  devices' results are the column blocks of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Value

@[expose] public section

noncomputable section

namespace Cert.Proof

open Idealize.ShloMosaic Idealize.SL.Sem Cert.AllToAll

/-- The kernel is one program, written out twice: the two tables of what it runs are equal. -/
theorem kernels_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
theorem defs_eq : Cert.Kernel.defs (F := Bits) = Cert.KernelIdeal.defs (F := Bits) :=
  congrArg (Pipeline.defs (Cert.KernelIdeal.pcfgs (F := Bits))) kernels_eq

/-- The kernel at the machine's words. -/
theorem frame_kernel : Cert.quiescent_Kernel := fun m ρ _ => by
  rw [defs_eq]
  exact (θ_run Cert.KernelIdeal.defs _ _).mono
    (fun _ h => ⟨fun c => ⟨(h.1 c).1 (0 : Fin 2) |>.trans (finalA_x m ρ c), (h.1 c).2⟩, h.2⟩) (run_main (F := Bits) m ρ)

/-- The kernel over the extended reals. -/
theorem frame_ideal : Cert.quiescent_KernelIdeal := fun m ρ _ =>
  (θ_run Cert.KernelIdeal.defs _ _).mono (fun _ h => ⟨fun c => ⟨(h.1 c).1 (0 : Fin 2) |>.trans (finalA_x m ρ c), (h.1 c).2⟩, h.2⟩)
    (run_main (F := Ideal) m ρ)

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result is column block `c` of the reference's. -/
theorem value : Cert.algebraic_KernelIdeal_ReferenceIdeal := by
  intro m ρ m' ρ' _ hargs
  refine ⟨Host.dotGeneral (F := Ideal) (φ₁ := .f32) (φ₂ := .f32) (DotDims.plain 4096 4096 2048) none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c).1 (1 : Fin 2)).trans ((finalA_out m ρ c).trans
          (outAt_eq m ρ _ _ (fun s => (hargs s).1) (fun s => (hargs s).2) c)),
        (h.1 c).1 (0 : Fin 2) |>.trans (finalA_x m ρ c), (h.1 c).2⟩)
      (run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, value⟩

end Cert.Proof

end
